-- ==== Defs.lean ====
def Pre_Kernel [hPre_half_counts_Kernel : Cert.Pre_half_counts_Kernel.Facts] (m : (ℓ : Loc Cert.Kernel.nD Cert.Kernel.τ Cert.Kernel.sig) → Buf (Elt Bits) ℓ) : Prop :=
  ∀ c : Dev Cert.Kernel.nD,
    (Cert.Pre_half_counts_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_half_counts_Kernel : Cert.Pre_half_counts_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_half_counts_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_half_counts_ReferenceIdeal [hPre_half_counts_ReferenceIdeal : Cert.Pre_half_counts_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_half_counts_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_half_counts_Kernel : Cert.Pre_half_counts_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_half_counts_Kernel : Cert.Pre_half_counts_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_half_counts_ReferenceIdeal [hReferenceIdeal : Cert.ReferenceIdeal.Facts] [hPre_half_counts_ReferenceIdeal : Cert.Pre_half_counts_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_half_counts_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_half_counts_Kernel : Cert.Pre_half_counts_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 1024]⟩ ⟨2, ![16384, 1024]⟩ (Layout.meshBlock [2, 2, 2] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_half_counts_Kernel : Cert.Pre_half_counts_Kernel.Facts) (hPre_half_counts_ReferenceIdeal : Cert.Pre_half_counts_ReferenceIdeal.Facts),
    quiescent_Kernel (hKernel := hKernel) (hPre_half_counts_Kernel := hPre_half_counts_Kernel)
    ∧ quiescent_KernelIdeal (hKernelIdeal := hKernelIdeal) (hPre_half_counts_Kernel := hPre_half_counts_Kernel)
    ∧ quiescent_ReferenceIdeal (hReferenceIdeal := hReferenceIdeal)
    ∧ quiescent_ReferenceIdeal_pre_half_counts_ReferenceIdeal (hReferenceIdeal := hReferenceIdeal) (hPre_half_counts_ReferenceIdeal := hPre_half_counts_ReferenceIdeal)
    ∧ preserves_Kernel_KernelIdeal
    ∧ algebraic_KernelIdeal_ReferenceIdeal (hKernelIdeal := hKernelIdeal) (hReferenceIdeal := hReferenceIdeal) (hPre_half_counts_Kernel := hPre_half_counts_Kernel)
-- ==== Pre_half_counts_Kernel.lean ====
abbrev S1024 : Shape := ⟨1, ![1024]⟩
abbrev S8192x1024 : Shape := ⟨2, ![8192, 1024]⟩
abbrev S_ : Shape := ⟨0, ![]⟩

class Facts : Prop where
  bcast_S_S1024 : S_.BroadcastsInDim S1024 (![] : Fin 0 → Fin S1024.rank)
  natLt_1_32 : 1 < 32
  reducesTo_S1024_S_d0 : S1024.ReducesTo [0] S_
  h_S_ : 0 < S_.numel

variable [Facts]

def fn {F : FTy → Type} [FloatOps F] (main_arg0 : IVec S1024 32) (main_arg1 : FVec F S8192x1024 .f32) : IVec S1024 1 :=
  let main_c : IVec S_ 32 := constantI S_ 32 14#32
  let main_v0 : IVec S1024 32 := broadcastInDim S1024 ![] bcast_S_S1024 main_c
  let main_v1 : IVec S1024 32 := Host.shrsi main_arg0 main_v0
  let main_c_0 : IVec S_ 32 := constantI S_ 32 0#32
  let main_v2 : IVec S1024 32 := broadcastInDim S1024 ![] bcast_S_S1024 main_c_0
  let main_v3 : IVec S1024 1 := cmpi .eq main_v1 main_v2
  let main_c_1 : IVec S_ 32 := constantI S_ 32 8192#32
  let main_v4 : IVec S1024 32 := broadcastInDim S1024 ![] bcast_S_S1024 main_c_1
  let main_v5 : IVec S1024 1 := cmpi .slt main_arg0 main_v4
  let main_v6 : IVec S1024 32 := (extui 32 · natLt_1_32) main_v5
  let main_c_2 : IVec S_ 32 := constantI S_ 32 0#32
  let main_v7 : IVec S_ 32 := (fun x v => Host.reduce IntOp.addi x v reducesTo_S1024_S_d0 h_S_) main_v6 main_c_2
  let main_c_3 : IVec S_ 32 := constantI S_ 32 510#32
  let main_v8 : IVec S_ 1 := cmpi .eq main_v7 main_c_3
  let main_v9 : IVec S1024 1 := broadcastInDim S1024 ![] bcast_S_S1024 main_v8
  let main_v10 : IVec S1024 1 := andi main_v3 main_v9
  main_v10
-- ==== Pre_half_counts_ReferenceIdeal.lean ====
abbrev S1024 : Shape := ⟨1, ![1024]⟩
abbrev S16384x1024 : Shape := ⟨2, ![16384, 1024]⟩
abbrev S_ : Shape := ⟨0, ![]⟩

class Facts : Prop where
  bcast_S_S1024 : S_.BroadcastsInDim S1024 (![] : Fin 0 → Fin S1024.rank)
  natLt_1_32 : 1 < 32
  reducesTo_S1024_S_d0 : S1024.ReducesTo [0] S_
  h_S_ : 0 < S_.numel

variable [Facts]

def fn {F : FTy → Type} [FloatOps F] (main_arg0 : IVec S1024 32) (main_arg1 : FVec F S16384x1024 .f32) : IVec S1024 1 :=
  let main_c : IVec S_ 32 := constantI S_ 32 14#32
  let main_v0 : IVec S1024 32 := broadcastInDim S1024 ![] bcast_S_S1024 main_c
  let main_v1 : IVec S1024 32 := Host.shrsi main_arg0 main_v0
  let main_c_0 : IVec S_ 32 := constantI S_ 32 0#32
  let main_v2 : IVec S1024 32 := broadcastInDim S1024 ![] bcast_S_S1024 main_c_0
  let main_v3 : IVec S1024 1 := cmpi .eq main_v1 main_v2
  let main_c_1 : IVec S_ 32 := constantI S_ 32 8192#32
  let main_v4 : IVec S1024 32 := broadcastInDim S1024 ![] bcast_S_S1024 main_c_1
  let main_v5 : IVec S1024 1 := cmpi .slt main_arg0 main_v4
  let main_v6 : IVec S1024 32 := (extui 32 · natLt_1_32) main_v5
  let main_c_2 : IVec S_ 32 := constantI S_ 32 0#32
  let main_v7 : IVec S_ 32 := (fun x v => Host.reduce IntOp.addi x v reducesTo_S1024_S_d0 h_S_) main_v6 main_c_2
  let main_c_3 : IVec S_ 32 := constantI S_ 32 510#32
  let main_v8 : IVec S_ 1 := cmpi .eq main_v7 main_c_3
  let main_v9 : IVec S1024 1 := broadcastInDim S1024 ![] bcast_S_S1024 main_v8
  let main_v10 : IVec S1024 1 := andi main_v3 main_v9
  main_v10
-- ==== Kernel.lean ====
abbrev S1024 : Shape := ⟨1, ![1024]⟩
abbrev S8192x1024 : Shape := ⟨2, ![8192, 1024]⟩
abbrev S_ : Shape := ⟨0, ![]⟩
abbrev S1 : Shape := ⟨1, ![1]⟩
abbrev S2 : Shape := ⟨1, ![2]⟩
abbrev S1024x1024 : Shape := ⟨2, ![1024, 1024]⟩
abbrev S1x1024 : Shape := ⟨2, ![1, 1024]⟩

abbrev nBuf : Space → Nat
  | .hbm => 46
  | .vmem => 1
  | .smem => 2
  | _ => 0

abbrev bufTy : (tb : Table) → Fin (tcTables nBuf tb) → BufTy
  | .hbm, ⟨0, _⟩ => ⟨S1024, .i32⟩
  | .hbm, ⟨1, _⟩ => ⟨S8192x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S1024, .i1⟩
  | .hbm, ⟨19, _⟩ => ⟨S1024, .i32⟩
  | .hbm, ⟨20, _⟩ => ⟨S_, .i32⟩
  | .hbm, ⟨21, _⟩ => ⟨S_, .i32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .i32⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024, .i32⟩
  | .hbm, ⟨40, _⟩ => ⟨S_, .i32⟩
  | .hbm, ⟨41, _⟩ => ⟨S_, .i32⟩
  | .hbm, ⟨42, _⟩ => ⟨S1, .i32⟩
  | .hbm, ⟨43, _⟩ => ⟨S1, .i32⟩
  | .hbm, ⟨44, _⟩ => ⟨S2, .i32⟩
  | .hbm, ⟨45, _⟩ => ⟨S1024x1024, .f32⟩
  | .local _ .vmem, ⟨0, _⟩ => ⟨S1024x1024, .f32⟩
  | .local _ .smem, ⟨0, _⟩ => ⟨S1024, .i32⟩
  | .local _ .smem, ⟨1, _⟩ => ⟨S2, .i32⟩
  | _, _ => ⟨S1024, .i32⟩

abbrev bufScoped : (cs : CoreSpace) → Fin (nBuf (.core cs)) → Bool
  | .vmem, ⟨0, _⟩ => true
  | .smem, ⟨0, _⟩ => true
  | .smem, ⟨1, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(11, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_4 : Ref sig .tc := ⟨.hbm, 20, rfl⟩
abbrev main_v14 : Ref sig .tc := ⟨.hbm, 21, rfl⟩
abbrev main_v15 : Ref sig .tc := ⟨.hbm, 22, rfl⟩
abbrev main_c_5 : Ref sig .tc := ⟨.hbm, 23, rfl⟩
abbrev main_v16 : Ref sig .tc := ⟨.hbm, 24, rfl⟩
abbrev main_v17 : Ref sig .tc := ⟨.hbm, 25, rfl⟩
abbrev main_c_6 : Ref sig .tc := ⟨.hbm, 26, rfl⟩
abbrev main_c_7 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v18 : Ref sig .tc := ⟨.hbm, 33, rfl⟩
abbrev main_v19 : Ref sig .tc := ⟨.hbm, 34, rfl⟩
abbrev main_c_8 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_9 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev cc0_stg2_0 : Ref sig .tc := ⟨.vmem, 0, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev barrier11 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
@[reducible] def k0_t1_loop (v17 : BitVec 32) : Scf.Loop 32 :=
  let c0_i32_10 : BitVec 32 := 0#32
  let v19 : BitVec 32 := Scalar.subi v17 c0_i32_10
  let c1_i32_11 : BitVec 32 := 1#32
  let v21 : BitVec 32 := Scalar.divsi v19 c1_i32_11
  let v22 : BitVec 32 := Scalar.muli v21 c1_i32_11
  let v23 : BitVec 32 := Scalar.addi c0_i32_10 v22
  let c1_i32_12 : BitVec 32 := 1#32
  ⟨c0_i32_10, v23, c1_i32_12⟩

def k0_off1 (v17 : BitVec 32) (k0_t1 : Fin (k0_t1_loop v17).trips) : Fin 1 → Nat :=
  let c0_i32_10 : BitVec 32 := 0#32
  let c1_i32_12 : BitVec 32 := 1#32
  let arg7 : BitVec 32 := Scf.iv c0_i32_10 c1_i32_12 k0_t1
  let v39 : Index := Scalar.indexCast arg7
  ![v39.toNat]
def k0_off2 (v40 : BitVec 32) : Fin 2 → Nat :=
  let c13_i32 : BitVec 32 := 13#32
  let v41 : BitVec 32 := Scalar.shrsi v40 c13_i32
  let c0_i32_29 : BitVec 32 := 0#32
  ![v41.toNat, 0]

def k0_off3 (v40 : BitVec 32) : Fin 2 → Nat :=
  let c8191_i32 : BitVec 32 := 8191#32
  let v42 : BitVec 32 := Scalar.andi v40 c8191_i32
  let c0_i32_30 : BitVec 32 := 0#32
  ![v42.toNat, 0]

def k0_chk2 (v40 : BitVec 32) : Prop :=
  (∀ a, (k0_off2 v40) a + S1x1024.size a ≤ S1024x1024.size a) ∧
  (∀ a, (k0_off3 v40) a + S1x1024.size a ≤ S8192x1024.size a)
theorem k0_off2_inb : ∀ (v40 : BitVec 32) (k0_hw2 : k0_chk2 v40), ∀ a, (k0_off2 v40) a + S1x1024.size a ≤ S1024x1024.size a := fun v40 k0_hw2 => k0_hw2.1
theorem k0_off3_inb : ∀ (v40 : BitVec 32) (k0_hw2 : k0_chk2 v40), ∀ a, (k0_off3 v40) a + S1x1024.size a ≤ S8192x1024.size a := fun v40 k0_hw2 => k0_hw2.2

def k0_dev2 (d0 : Dev nD) : Nat :=
  let c0_i32_32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_31 : BitVec 32 := 4#32
  let v45 : BitVec 32 := Scalar.muli v2 c4_i32_31
  let v46 : BitVec 32 := Scalar.addi c0_i32_32 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v47 : BitVec 32 := Scalar.muli v5 c2_i32_33
  let v48 : BitVec 32 := Scalar.addi v46 v47
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_34 : BitVec 32 := 1#32
  let v49 : BitVec 32 := Scalar.muli v9 c1_i32_34
  let v50 : BitVec 32 := Scalar.addi v48 v49
  v50.toNat
@[reducible] def k0_t2_loop (v17 : BitVec 32) : Scf.Loop 32 :=
  let c0_i32_10 : BitVec 32 := 0#32
  let v19 : BitVec 32 := Scalar.subi v17 c0_i32_10
  let c1_i32_11 : BitVec 32 := 1#32
  let v21 : BitVec 32 := Scalar.divsi v19 c1_i32_11
  let v22 : BitVec 32 := Scalar.muli v21 c1_i32_11
  let v23 : BitVec 32 := Scalar.addi c0_i32_10 v22
  let v20 : BitVec 32 := Scalar.addi c0_i32_10 v19
  let c1_i32_13 : BitVec 32 := 1#32
  ⟨v23, v20, c1_i32_13⟩
def k0_off4 (v17 : BitVec 32) (k0_t2 : Fin (k0_t2_loop v17).trips) : Fin 1 → Nat :=
  let c0_i32_10 : BitVec 32 := 0#32
  let v19 : BitVec 32 := Scalar.subi v17 c0_i32_10
  let c1_i32_11 : BitVec 32 := 1#32
  let v21 : BitVec 32 := Scalar.divsi v19 c1_i32_11
  let v22 : BitVec 32 := Scalar.muli v21 c1_i32_11
  let v23 : BitVec 32 := Scalar.addi c0_i32_10 v22
  let c1_i32_13 : BitVec 32 := 1#32
  let arg7 : BitVec 32 := Scf.iv v23 c1_i32_13 k0_t2
  let v39 : Index := Scalar.indexCast arg7
  ![v39.toNat]
def k0_off5 (v40 : BitVec 32) : Fin 2 → Nat :=
  let c13_i32 : BitVec 32 := 13#32
  let v41 : BitVec 32 := Scalar.shrsi v40 c13_i32
  let c0_i32_29 : BitVec 32 := 0#32
  ![v41.toNat, 0]

def k0_off6 (v40 : BitVec 32) : Fin 2 → Nat :=
  let c8191_i32 : BitVec 32 := 8191#32
  let v42 : BitVec 32 := Scalar.andi v40 c8191_i32
  let c0_i32_30 : BitVec 32 := 0#32
  ![v42.toNat, 0]

def k0_chk3 (v40 : BitVec 32) : Prop :=
  (∀ a, (k0_off5 v40) a + S1x1024.size a ≤ S1024x1024.size a) ∧
  (∀ a, (k0_off6 v40) a + S1x1024.size a ≤ S8192x1024.size a)
theorem k0_off5_inb : ∀ (v40 : BitVec 32) (k0_hw3 : k0_chk3 v40), ∀ a, (k0_off5 v40) a + S1x1024.size a ≤ S1024x1024.size a := fun v40 k0_hw3 => k0_hw3.1
theorem k0_off6_inb : ∀ (v40 : BitVec 32) (k0_hw3 : k0_chk3 v40), ∀ a, (k0_off6 v40) a + S1x1024.size a ≤ S8192x1024.size a := fun v40 k0_hw3 => k0_hw3.2

def k0_dev3 (d0 : Dev nD) : Nat :=
  let c0_i32_32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_31 : BitVec 32 := 4#32
  let v45 : BitVec 32 := Scalar.muli v2 c4_i32_31
  let v46 : BitVec 32 := Scalar.addi c0_i32_32 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v47 : BitVec 32 := Scalar.muli v5 c2_i32_33
  let v48 : BitVec 32 := Scalar.addi v46 v47
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_34 : BitVec 32 := 1#32
  let v49 : BitVec 32 := Scalar.muli v9 c1_i32_34
  let v50 : BitVec 32 := Scalar.addi v48 v49
  v50.toNat
@[reducible] def k0_t3_loop (v18 : BitVec 32) : Scf.Loop 32 :=
  let c0_i32_15 : BitVec 32 := 0#32
  let v24 : BitVec 32 := Scalar.subi v18 c0_i32_15
  let c1_i32_16 : BitVec 32 := 1#32
  let v26 : BitVec 32 := Scalar.divsi v24 c1_i32_16
  let v27 : BitVec 32 := Scalar.muli v26 c1_i32_16
  let v28 : BitVec 32 := Scalar.addi c0_i32_15 v27
  let c1_i32_17 : BitVec 32 := 1#32
  ⟨c0_i32_15, v28, c1_i32_17⟩

@[reducible] def k0_t4_loop (v18 : BitVec 32) : Scf.Loop 32 :=
  let c0_i32_15 : BitVec 32 := 0#32
  let v24 : BitVec 32 := Scalar.subi v18 c0_i32_15
  let c1_i32_16 : BitVec 32 := 1#32
  let v26 : BitVec 32 := Scalar.divsi v24 c1_i32_16
  let v27 : BitVec 32 := Scalar.muli v26 c1_i32_16
  let v28 : BitVec 32 := Scalar.addi c0_i32_15 v27
  let v25 : BitVec 32 := Scalar.addi c0_i32_15 v24
  let c1_i32_18 : BitVec 32 := 1#32
  ⟨v28, v25, c1_i32_18⟩

def k0_chk4 (v18 : BitVec 32) : Prop :=
  ((k0_t3_loop v18).OK) ∧
  ((k0_t4_loop v18).OK)
theorem k0_t3_ok : ∀ (v18 : BitVec 32) (k0_hw4 : k0_chk4 v18), (k0_t3_loop v18).OK := fun v18 k0_hw4 => k0_hw4.1
theorem k0_t4_ok : ∀ (v18 : BitVec 32) (k0_hw4 : k0_chk4 v18), (k0_t4_loop v18).OK := fun v18 k0_hw4 => k0_hw4.2

@[reducible] def k0_t5_loop (v17 : BitVec 32) : Scf.Loop 32 :=
  let c0_i32_20 : BitVec 32 := 0#32
  let v29 : BitVec 32 := Scalar.subi v17 c0_i32_20
  let c1_i32_21 : BitVec 32 := 1#32
  let v31 : BitVec 32 := Scalar.divsi v29 c1_i32_21
  let v32 : BitVec 32 := Scalar.muli v31 c1_i32_21
  let v33 : BitVec 32 := Scalar.addi c0_i32_20 v32
  let c1_i32_22 : BitVec 32 := 1#32
  ⟨c0_i32_20, v33, c1_i32_22⟩
@[reducible] def k0_t6_loop (v17 : BitVec 32) : Scf.Loop 32 :=
  let c0_i32_20 : BitVec 32 := 0#32
  let v29 : BitVec 32 := Scalar.subi v17 c0_i32_20
  let c1_i32_21 : BitVec 32 := 1#32
  let v31 : BitVec 32 := Scalar.divsi v29 c1_i32_21
  let v32 : BitVec 32 := Scalar.muli v31 c1_i32_21
  let v33 : BitVec 32 := Scalar.addi c0_i32_20 v32
  let v30 : BitVec 32 := Scalar.addi c0_i32_20 v29
  let c1_i32_23 : BitVec 32 := 1#32
  ⟨v33, v30, c1_i32_23⟩
@[reducible] def k0_t7_loop (v17 : BitVec 32) : Scf.Loop 32 :=
  let c0_i32_25 : BitVec 32 := 0#32
  let v34 : BitVec 32 := Scalar.subi v17 c0_i32_25
  let c1_i32_26 : BitVec 32 := 1#32
  let v36 : BitVec 32 := Scalar.divsi v34 c1_i32_26
  let v37 : BitVec 32 := Scalar.muli v36 c1_i32_26
  let v38 : BitVec 32 := Scalar.addi c0_i32_25 v37
  let c1_i32_27 : BitVec 32 := 1#32
  ⟨c0_i32_25, v38, c1_i32_27⟩
@[reducible] def k0_t8_loop (v17 : BitVec 32) : Scf.Loop 32 :=
  let c0_i32_25 : BitVec 32 := 0#32
  let v34 : BitVec 32 := Scalar.subi v17 c0_i32_25
  let c1_i32_26 : BitVec 32 := 1#32
  let v36 : BitVec 32 := Scalar.divsi v34 c1_i32_26
  let v37 : BitVec 32 := Scalar.muli v36 c1_i32_26
  let v38 : BitVec 32 := Scalar.addi c0_i32_25 v37
  let v35 : BitVec 32 := Scalar.addi c0_i32_25 v34
  let c1_i32_28 : BitVec 32 := 1#32
  ⟨v38, v35, c1_i32_28⟩

def k0_chk1 (v17 : BitVec 32) : Prop :=
  ((k0_t1_loop v17).OK) ∧
  (∀ k0_t1 : Fin (k0_t1_loop v17).trips, ∀ a, (k0_off1 v17 k0_t1) a + S1.size a ≤ S1024.size a) ∧
  ((k0_t2_loop v17).OK) ∧
  (∀ k0_t2 : Fin (k0_t2_loop v17).trips, ∀ a, (k0_off4 v17 k0_t2) a + S1.size a ≤ S1024.size a) ∧
  ((k0_t5_loop v17).OK) ∧
  ((k0_t6_loop v17).OK) ∧
  ((k0_t7_loop v17).OK) ∧
  ((k0_t8_loop v17).OK)
theorem k0_t1_ok : ∀ (v17 : BitVec 32) (k0_hw1 : k0_chk1 v17), (k0_t1_loop v17).OK := fun v17 k0_hw1 => k0_hw1.1
theorem k0_off1_inb : ∀ (v17 : BitVec 32) (k0_hw1 : k0_chk1 v17) (k0_t1 : Fin (k0_t1_loop v17).trips), ∀ a, (k0_off1 v17 k0_t1) a + S1.size a ≤ S1024.size a := fun v17 k0_hw1 k0_t1 => k0_hw1.2.1 k0_t1
theorem k0_t2_ok : ∀ (v17 : BitVec 32) (k0_hw1 : k0_chk1 v17), (k0_t2_loop v17).OK := fun v17 k0_hw1 => k0_hw1.2.2.1
theorem k0_off4_inb : ∀ (v17 : BitVec 32) (k0_hw1 : k0_chk1 v17) (k0_t2 : Fin (k0_t2_loop v17).trips), ∀ a, (k0_off4 v17 k0_t2) a + S1.size a ≤ S1024.size a := fun v17 k0_hw1 k0_t2 => k0_hw1.2.2.2.1 k0_t2
theorem k0_t5_ok : ∀ (v17 : BitVec 32) (k0_hw1 : k0_chk1 v17), (k0_t5_loop v17).OK := fun v17 k0_hw1 => k0_hw1.2.2.2.2.1
theorem k0_t6_ok : ∀ (v17 : BitVec 32) (k0_hw1 : k0_chk1 v17), (k0_t6_loop v17).OK := fun v17 k0_hw1 => k0_hw1.2.2.2.2.2.1
theorem k0_t7_ok : ∀ (v17 : BitVec 32) (k0_hw1 : k0_chk1 v17), (k0_t7_loop v17).OK := fun v17 k0_hw1 => k0_hw1.2.2.2.2.2.2.1
theorem k0_t8_ok : ∀ (v17 : BitVec 32) (k0_hw1 : k0_chk1 v17), (k0_t8_loop v17).OK := fun v17 k0_hw1 => k0_hw1.2.2.2.2.2.2.2

abbrev stage0_0 : Fin 1 → Memref sig .tc .smem S1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024 : Shape := ⟨1, ![1024]⟩
abbrev S16384x1024 : Shape := ⟨2, ![16384, 1024]⟩
abbrev S_ : Shape := ⟨0, ![]⟩
abbrev S1024x1 : Shape := ⟨2, ![1024, 1]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024, .i32⟩
  | .hbm, ⟨1, _⟩ => ⟨S16384x1024, .f32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x1024, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Proto.lean ====
/-
  The protocol of the two devices that share a table shard pair: the data it is stated over (`Plan`), the rows it moves, and
  the schedule of its four kinds of cells.

  Devices `c` and `pr c` hold the two halves of the table. Device `c` owns the tokens whose row lies in its half and copies each of
  those rows twice: into its own output and into its partner's. Where the two devices' row numbers differ, a token may be owned by both,
  and two copies race to its row, or by none. So the right to write an output row is held in two halves, one for the device's own copy
  and one for its partner's (write mode): where the plan is sure of the output, both halves may only write the planned value; where it is
  not, they may write anything.

  * BARRIER cell of `c`: the partner signals it once, handing over, for the tokens `c` owns, the far half of the right to the partner's rows.
  * LOCAL cell of `c`: one landing per owned token, handing back the near half of that output row of `c`, marked written, and the lent share
    of the source row.
  * SEND cell of `c`: one landing per owned token, handing back the lent share of the source row.
  * RECEIVE cell of `c`: one landing per token the partner owns, handing over the far half of that output row of `c`, marked written.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Regions
public import Idealize.ShloMosaic.Lib.Pipeline.Kit
public import Idealize.ShloMosaic.Lib.Transfers
public import Idealize.ShloMosaic.Lib.WriteMode
public import Idealize.ShloMosaic.Lib.LoopRemainder
public import Idealize.ShloMosaic.Lib.Tactic

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type}

/-- A duty is named by the token whose row it moves. -/
abbrev Tok : Type := Fin 1024

/-- The pipeline library's copy, the protocol's, and that of the rows in write mode. -/
abbrev UU (F : FTy → Type) : Type := UR sig nD τ × (URounds (GSem nD τ sig) Tok × WmRA nD τ sig (Elt F))

local notation "𝕄" => MT nD τ sig Unit (Elt F) ℕ (UU F) ℕ

abbrev EP : Emb (UR sig nD τ) (MT nD τ sig Unit (Elt F) ℕ (UU F) ℕ) := embL
def ER : Emb (URounds (GSem nD τ sig) Tok) (MT nD τ sig Unit (Elt F) ℕ (UU F) ℕ) :=
  (Emb.inl : Emb (URounds (GSem nD τ sig) Tok) (URounds (GSem nD τ sig) Tok × WmRA nD τ sig (Elt F))).trans embR
abbrev EW : UEmb (WmRA nD τ sig (Elt F)) (UU F) := (UEmb.inr : UEmb (WmRA nD τ sig (Elt F)) _).trans UEmb.inr

instance ER_landsIn : (ER : Emb _ 𝕄).LandsIn (upEmb : UEmb _ 𝕄) := by unfold ER; infer_instance

/-! ## The pair -/

/-- The device that holds the other half of the table: the one across the last mesh axis. -/
def pr (c : Dev nD) : Dev nD := ⟨(4 * (c.val / 4) + 2 * ((c.val / 2) % 2) + 1 - c.val % 2) % 8, Nat.mod_lt _ (by decide)⟩

theorem pr_pr (c : Dev nD) : pr (pr c) = c := by revert c; decide
theorem pr_ne (c : Dev nD) : pr c ≠ c := by revert c; decide
theorem dev1_eq (c : Dev nD) : (⟨k0_dev1 c, Facts₀.k0_dev1_lt c⟩ : Dev nD) = pr c := by
  apply Fin.ext; rw [show (⟨k0_dev1 c, Facts₀.k0_dev1_lt c⟩ : Dev nD).val = _ from k0_dev1_eq c]; revert c; decide
theorem dev2_eq (c : Dev nD) : (⟨k0_dev2 c, Facts₀.k0_dev2_lt c⟩ : Dev nD) = pr c := by
  apply Fin.ext; rw [show (⟨k0_dev2 c, Facts₀.k0_dev2_lt c⟩ : Dev nD).val = _ from k0_dev2_eq c]; revert c; decide

/-- Swapping every pair. -/
def swap : Dev nD ≃ Dev nD := ⟨pr, pr, pr_pr, pr_pr⟩

/-! ## Rows -/

abbrev outR : Ref sig .tc := cc0_stg2_0
abbrev pkR : Ref sig .tc := cc0_stg0_0
abbrev cnR : Ref sig .tc := cc0_stg1_0
abbrev oM : Memref sig .tc .vmem S1024x1024 .f32 := Memref.whole outR
abbrev eM : Memref sig .tc .hbm S8192x1024 .f32 := Memref.whole main_arg1

theorem oRow_inb (t : Tok) : ∀ a, (![t.val, 0] : Fin 2 → ℕ) a + S1x1024.size a ≤ S1024x1024.size a := by
  intro a; fin_cases a
  · show t.val + 1 ≤ 1024; omega
  · show 0 + 1024 ≤ 1024; omega
theorem eRow_inb (r : Fin 8192) : ∀ a, (![r.val, 0] : Fin 2 → ℕ) a + S1x1024.size a ≤ S8192x1024.size a := by
  intro a; fin_cases a
  · show r.val + 1 ≤ 8192; omega
  · show 0 + 1024 ≤ 1024; omega

/-- Row `t` of the output buffer. -/
abbrev oRow (t : Tok) : Memref sig .tc .vmem S1x1024 .f32 :=
  oM.slice (Rect.unit (s := S1024x1024) ![t.val, 0] S1x1024.size (oRow_inb t)) (fun _ => rfl)
/-- Row `r` of the device's half of the table. -/
abbrev eRow (r : Fin 8192) : Memref sig .tc .hbm S1x1024 .f32 :=
  eM.slice (Rect.unit (s := S8192x1024) ![r.val, 0] S1x1024.size (eRow_inb r)) (fun _ => rfl)

theorem mem_oRow (t : Tok) (i : S1024x1024.Idx) : i ∈ (oRow t).view.set ↔ (i 0).val = t.val := by
  rw [show (oRow t).view.set = _ from View.set_slice_whole _ _, Rect.mem_set_unit]
  constructor
  · intro h; have := h 0; simp at this; omega
  · intro h a
    fin_cases a
    · show t.val ≤ (i 0).val ∧ (i 0).val < t.val + 1; omega
    · have := (i 1).isLt; show 0 ≤ (i 1).val ∧ (i 1).val < 0 + 1024; exact ⟨Nat.zero_le _, by simpa using this⟩

theorem oRow_disjoint {t t' : Tok} (h : t ≠ t') : Disjoint (oRow t).view.set (oRow t').view.set :=
  Finset.disjoint_left.mpr fun i hi hi' => h (Fin.ext (((mem_oRow t i).mp hi).symm.trans ((mem_oRow t' i).mp hi')))

/-- The elements of row `t`, -/
abbrev oSet (t : Tok) : Finset S1024x1024.Idx := (oRow t).view.set
/-- all of them together the whole buffer. -/
theorem oRow_cover : (Finset.univ : Finset Tok).biUnion oSet = Finset.univ :=
  Finset.eq_univ_iff_forall.mpr fun i => by
    have hi : (i 0).val < 1024 := (i 0).isLt
    rw [Finset.mem_biUnion]
    refine ⟨(⟨(i 0).val, hi⟩ : Tok), Finset.mem_univ (⟨(i 0).val, hi⟩ : Tok), ?_⟩
    rw [mem_oRow]

/-- What a copy of one row credits. -/
abbrev N : ℕ := (oRow 0).view.dmaCredit
theorem N_pos : 0 < N := View.dmaCredit_pos _ (by decide)
theorem credit_oRow (t : Tok) : (oRow t).view.dmaCredit = N := rfl
theorem credit_eRow (r : Fin 8192) : (eRow r).view.dmaCredit = N := by decide +revert

/-- The index of a list's entry `i`. -/
def ix {n : ℕ} (i : ℕ) (h : i < n) : (⟨1, ![n]⟩ : Shape).Idx := fun a => ⟨i, by fin_cases a; exact h⟩

/-! ## The plan -/

/-- What the two copies of a pair do: `n c` rows are device `c`'s to copy; its trip `i` copies table row `rw c t` to output row `t`, for `t` the
    token `tk c i`. `e c` is device `c`'s half of the table, `pk c` and `cn c` the list of packed (token, row) words and the two counts it is
    handed. `go c` is the output it ends with if the plan is `sure`, that is, if each token is the business of a device of the pair and
    every copy brings the planned row; `tgt c` says what each output element may be written to, anything where it names no value. -/
structure Plan (F : FTy → Type) where
  n : Dev nD → ℕ
  tk : Dev nD → ℕ → Tok
  rw : Dev nD → Tok → Fin 8192
  e : Dev nD → (main_arg1 : Ref sig .tc).ty.Contents (Elt F)
  go : Dev nD → (outR : Ref sig .tc).ty.Contents (Elt F)
  pk : Dev nD → S1024.Idx → BitVec 32
  cn : Dev nD → S2.Idx → BitVec 32
  n_le : ∀ c, n c ≤ 1024
  inj : ∀ c i j, i < n c → j < n c → tk c i = tk c j → i = j
  sure : Prop
  tgt : Dev nD → S1024x1024.Idx → Option (Elt F .f32)
  tgt_go : sure → ∀ c, tgt c = fun j => some (go c j)
  cover : sure → ∀ c t, (∃ i < n c, tk c i = t) ∨ ∃ i < n (pr c), tk (pr c) i = t
  row : ∀ c c' i, (c' = c ∨ c' = pr c) → i < n c →
    (oRow (tk c i)).view.Admitted (Elt F) (tgt c') ((eRow (rw c (tk c i))).view.read (Elt F) (e c)) Finset.univ
  cn_own : ∀ c, cn c (ix 0 (by decide)) = BitVec.ofNat 32 (n c)
  cn_peer : ∀ c, cn c (ix 1 (by decide)) = BitVec.ofNat 32 (n (pr c))
  pk_out : ∀ c i (h : i < 1024), i < n c → k0_off2 (pk c (ix i h)) = ![(tk c i).val, 0]
  pk_in : ∀ c i (h : i < 1024), i < n c → k0_off3 (pk c (ix i h)) = ![(rw c (tk c i)).val, 0]

variable (P : Plan F)

/-- The tokens device `c` copies. -/
def own (c : Dev nD) : Finset Tok := (Finset.range (P.n c)).image (P.tk c)

theorem mem_own {c : Dev nD} {t : Tok} : t ∈ own P c ↔ ∃ i < P.n c, P.tk c i = t := by
  unfold own; rw [Finset.mem_image]; simp only [Finset.mem_range]
theorem tk_mem {c : Dev nD} {i : ℕ} (h : i < P.n c) : P.tk c i ∈ own P c := (mem_own P).mpr ⟨i, h, rfl⟩
theorem tk_injOn (c : Dev nD) : Set.InjOn (P.tk c) (Finset.range (P.n c)) := fun i hi j hj e =>
  P.inj c i j (by simpa using hi) (by simpa using hj) e
theorem card_own (c : Dev nD) : (own P c).card = P.n c := by
  unfold own; rw [Finset.card_image_of_injOn (tk_injOn P c), Finset.card_range]
theorem own_cover (h : P.sure) (c : Dev nD) (t : Tok) : t ∈ own P c ∨ t ∈ own P (pr c) :=
  (P.cover h c t).imp (mem_own P).mpr (mem_own P).mpr

/-! ## Cells and contents -/

abbrev barS : Sem sig := (SemArray.scalar (sig.barrier 11 rfl) : Sems sig S_).sem
abbrev locS : DmaSem sig := cc0_scratch0.sem
abbrev sndS : DmaSem sig := cc0_scratch1.sem
abbrev rcvS : DmaSem sig := cc0_scratch2.sem

abbrev barCell (c : Dev nD) : GSem nD τ sig := ((c : Thread nD τ), .reg barS)
abbrev locCell (c : Dev nD) : GSem nD τ sig := ((c : Thread nD τ), .dma locS)
abbrev sndCell (c : Dev nD) : GSem nD τ sig := ((c : Thread nD τ), .dma sndS)
abbrev rcvCell (c : Dev nD) : GSem nD τ sig := ((c : Thread nD τ), .dma rcvS)

theorem loc_ne_bar : (SemLoc.dma locS : SemLoc sig) ≠ .reg barS := fun h => by cases h
theorem snd_ne_bar : (SemLoc.dma sndS : SemLoc sig) ≠ .reg barS := fun h => by cases h
theorem rcv_ne_bar : (SemLoc.dma rcvS : SemLoc sig) ≠ .reg barS := fun h => by cases h
theorem snd_ne_loc : (SemLoc.dma sndS : SemLoc sig) ≠ .dma locS := by decide
theorem rcv_ne_loc : (SemLoc.dma rcvS : SemLoc sig) ≠ .dma locS := by decide
theorem rcv_ne_snd : (SemLoc.dma rcvS : SemLoc sig) ≠ .dma sndS := by decide

/-- The share of the table lent to the local copy of token `t`, and to its remote copy. -/
abbrev qL (t : Tok) : PosShare TreeShare := shareTok fullShare.left 1024 t
abbrev qR (t : Tok) : PosShare TreeShare := shareTok fullShare.right 1024 t

/-- Row `t` of device `c`'s output, at `f`. -/
abbrev oPts (c : Dev nD) (t : Tok) (f : (outR : Ref sig .tc).ty.Contents (Elt F)) : sProp 𝕄 :=
  (oRow t).view.loc (c : Thread nD τ) ↦[(oRow t).view.set]{fullShare} f
/-- Share `q` of the right to write row `t` of device `c`'s output to what the plan allows; the row was `f`, `W` of it has been written. -/
abbrev wPts (c : Dev nD) (q : PosShare TreeShare) (t : Tok) (f : (outR : Ref sig .tc).ty.Contents (Elt F)) (W : Finset S1024x1024.Idx) : sProp 𝕄 :=
  willBeTo EW ((oRow t).view.loc (c : Thread nD τ)) (oRow t).view.set q f (P.tgt c) W
/-- The share for the device's own copies, and the one for its partner's. -/
abbrev qN : PosShare TreeShare := fullShare.left
abbrev qF : PosShare TreeShare := fullShare.right
/-- A share of row `r` of device `c`'s half of the table. -/
abbrev ePts (c : Dev nD) (q : PosShare TreeShare) (r : Fin 8192) : sProp 𝕄 :=
  (eRow r).view.loc (c : Thread nD τ) ↦[(eRow r).view.set]{q} P.e c

/-! ## The schedule -/

def barPay (c : Dev nD) : sProp 𝕄 :=
  iprop(bigSep (own P c) (fun t => iprop(∃ f, wPts P (pr c) qF t f ∅)) ∗ reached ER (rcvCell (pr c)) 0)
def locPay (c : Dev nD) (t : Tok) : sProp 𝕄 := iprop((∃ f, wPts P c qN t f (oSet t)) ∗ ePts P c (qL t) (P.rw c t))
def sndPay (c : Dev nD) (t : Tok) : sProp 𝕄 := ePts P c (qR t) (P.rw c t)
def rcvPay (c : Dev nD) (t : Tok) : sProp 𝕄 := iprop(∃ f, wPts P c qF t f (oSet t))

/-- The duties of round 0 of a TensorCore's cell. -/
def dutiesOf (c : Dev nD) (s : SemLoc sig) : Finset Tok :=
  if s = .reg barS then {0} else if s = .dma locS then own P c else if s = .dma sndS then own P c
  else if s = .dma rcvS then own P (pr c) else ∅

def rd : Rounds.Schedule (GSem nD τ sig) Tok 𝕄 where
  duties g r := if r = 0 ∧ g.1.2 = .tc then dutiesOf P g.1.1 g.2 else ∅
  amount g _ _ := if g.2 = .reg barS then 1 else N
  payload g _ t :=
    if g.2 = .reg barS then barPay P g.1.1
    else if g.2 = .dma locS then locPay P g.1.1 t
    else if g.2 = .dma sndS then sndPay P g.1.1 t
    else if g.2 = .dma rcvS then rcvPay P g.1.1 t
    else iprop(emp)
  amount_pos g _ _ _ := by
    by_cases h : g.2 = .reg barS
    · rw [if_pos h]; exact Nat.one_pos
    · rw [if_neg h]; exact N_pos

instance rd_storable (g : GSem nD τ sig) (r : ℕ) (t : Tok) : BI.Storable (upEmb : UEmb _ 𝕄) ((rd P).payload g r t) := by
  show BI.Storable upEmb (if g.2 = .reg barS then barPay P g.1.1 else if g.2 = .dma locS then locPay P g.1.1 t
    else if g.2 = .dma sndS then sndPay P g.1.1 t else if g.2 = .dma rcvS then rcvPay P g.1.1 t else iprop(emp))
  unfold barPay locPay sndPay rcvPay
  (repeat' split) <;> infer_instance

section Tables

variable (c : Dev nD)

theorem duties_zero (s : SemLoc sig) : (rd P).duties ((c : Thread nD τ), s) 0 = dutiesOf P c s := by dsimp only [rd]; exact if_pos ⟨rfl, rfl⟩
theorem duties_later (g : GSem nD τ sig) : ∀ r, 1 ≤ r → (rd P).duties g r = ∅ :=
  fun r hr => by dsimp only [rd]; rw [if_neg (fun h => by omega)]

theorem duties_bar : (rd P).duties (barCell c) 0 = {0} := by rw [duties_zero]; exact if_pos rfl
theorem duties_loc : (rd P).duties (locCell c) 0 = own P c := by
  rw [duties_zero]; unfold dutiesOf; rw [if_neg loc_ne_bar, if_pos rfl]
theorem duties_snd : (rd P).duties (sndCell c) 0 = own P c := by
  rw [duties_zero]; unfold dutiesOf; rw [if_neg snd_ne_bar, if_neg snd_ne_loc, if_pos rfl]
theorem duties_rcv : (rd P).duties (rcvCell c) 0 = own P (pr c) := by
  rw [duties_zero]; unfold dutiesOf; rw [if_neg rcv_ne_bar, if_neg rcv_ne_loc, if_neg rcv_ne_snd, if_pos rfl]

theorem amount_bar (t : Tok) : (rd P).amount (barCell c) 0 t = 1 := by dsimp only [rd]; exact if_pos rfl
theorem amount_dma (s : DmaSem sig) (t : Tok) : (rd P).amount ((c : Thread nD τ), .dma s) 0 t = N := by
  dsimp only [rd]; exact if_neg (fun h => by cases h)

theorem expect_bar : (rd P).expect (barCell c) 0 = 1 := by
  unfold Schedule.expect Schedule.amountOf; rw [duties_bar, Finset.sum_singleton, amount_bar]
/-- A DMA cell expects one row's credit per duty. -/
theorem expect_dma (s : DmaSem sig) :
    (rd P).expect ((c : Thread nD τ), .dma s) 0 = ((rd P).duties ((c : Thread nD τ), .dma s) 0).card * N := by
  unfold Schedule.expect Schedule.amountOf
  rw [Finset.sum_congr rfl (fun t _ => amount_dma P c s t), Finset.sum_const, smul_eq_mul]

theorem payload_bar (t : Tok) : (rd P).payload (barCell c) 0 t = barPay P c := by dsimp only [rd]; exact if_pos rfl
theorem payload_loc (t : Tok) : (rd P).payload (locCell c) 0 t = locPay P c t := by
  dsimp only [rd]; rw [if_neg loc_ne_bar, if_pos rfl]
theorem payload_snd (t : Tok) : (rd P).payload (sndCell c) 0 t = sndPay P c t := by
  dsimp only [rd]; rw [if_neg snd_ne_bar, if_neg snd_ne_loc, if_pos rfl]
theorem payload_rcv (t : Tok) : (rd P).payload (rcvCell c) 0 t = rcvPay P c t := by
  dsimp only [rd]; rw [if_neg rcv_ne_bar, if_neg rcv_ne_loc, if_neg rcv_ne_snd, if_pos rfl]

end Tables

/-! ## What each device owes at launch; the levels -/

/-- The rows it is to deliver to its partner, and the signal of its partner's barrier. -/
def O₀ (c : Dev nD) : CellTallies nD τ sig Unit := tallyAt (rcvCell (pr c)) () (P.n c * N) + tallyAt (barCell (pr c)) () 1

def L (g : GSem nD τ sig) : Finset Unit := if g.1.2 = .tc then {()} else ∅
/-- Barrier cells at 1, receive cells at 2, the rest at 0. -/
def lv (g : GSem nD τ sig) (_ : Unit) : ℕ := if g.2 = .reg barS then 1 else if g.2 = .dma rcvS then 2 else 0

theorem L_of_ne (g : GSem nD τ sig) (h : g.1.2 ≠ .tc) : L g = ∅ := if_neg h
theorem L_tc (c : Dev nD) (s : SemLoc sig) : L ((c : Thread nD τ), s) = {()} := if_pos rfl

/-- The barrier is waited on while rows are owed to the partner: its cell lies below the receive cells. -/
theorem mayWait_bar (c : Dev nD) (k : ℕ) :
    (levAts L lv : sProp 𝕄) ⊢ MayWait (c : Thread nD τ) (.reg barS) () (tallyAt (rcvCell (pr c)) () k) :=
  MayOwe.of_cut (L := L) (lev := lv) 1 (fun p hp => by rw [Finset.mem_singleton.mp hp, L_tc]; exact Finset.mem_singleton_self _)
    (fun g u hg => by
      rw [tallyAt_apply] at hg
      by_cases h : g = rcvCell (pr c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = rcvCell (pr c) ∧ u = ()
      · rw [h.1]; dsimp only [lv]; rw [if_neg rcv_ne_bar, if_pos rfl]; decide
      · rw [if_neg h] at hg; exact absurd hg (Nat.lt_irrefl 0))

/-! ## Ghost state -/

/-- The library's invariant for buffers in write mode, at some name. -/
def wmAny : sProp 𝕄 := iprop(∃ ιw, wmInv (EW : UEmb (WmRA nD τ sig (Elt F)) (UU F)) ιw)

instance wmAny_persistent : BI.Persistent (wmAny : sProp 𝕄) := by unfold wmAny; infer_instance

/-- The invariants device `c` opens: the write mode's; and, at the names `K` they were allocated at, its own four cells', its partner's barrier and receive cells'. -/
def invs (K : GSem nD τ sig → ℕ) (c : Dev nD) : sProp 𝕄 :=
  iprop(wmAny ∗ cellInv ER (rd P) (K (barCell c)) (barCell c) ∗ cellInv ER (rd P) (K (locCell c)) (locCell c)
    ∗ cellInv ER (rd P) (K (sndCell c)) (sndCell c) ∗ cellInv ER (rd P) (K (rcvCell c)) (rcvCell c)
    ∗ cellInv ER (rd P) (K (barCell (pr c))) (barCell (pr c)) ∗ cellInv ER (rd P) (K (rcvCell (pr c))) (rcvCell (pr c)))

instance invs_persistent (K : GSem nD τ sig → ℕ) (c : Dev nD) : BI.Persistent (invs P K c) := by unfold invs; infer_instance

/-- The duty tokens device `c` pays with: its partner's barrier signal, and per owned token the local copy, the remote copy's departure and its
    arrival at the partner. -/
def toks (c : Dev nD) : sProp 𝕄 :=
  iprop(dutyTok ER (barCell (pr c)) 0 0 ∗ bigSep (own P c) (fun t => dutyTok ER (locCell c) 0 t)
    ∗ bigSep (own P c) (fun t => dutyTok ER (sndCell c) 0 t) ∗ bigSep (own P c) (fun t => dutyTok ER (rcvCell (pr c)) 0 t))

/-- What device `c` carries from launch to the kernel: the invariants' names, its position on its barrier cell, the right to open its three
    scoped cells, that its partner's barrier cell is at round 0, and its duty tokens. -/
def ghost (K : GSem nD τ sig → ℕ) (c : Dev nD) : sProp 𝕄 :=
  iprop(invs P K c ∗ atPos ER (barCell c) 0 ∅ 0 ∗ openTok ER (locCell c) ∗ openTok ER (sndCell c) ∗ openTok ER (rcvCell c)
    ∗ reached ER (barCell (pr c)) 0 ∗ toks P c)

/-- With the credit it waits on its barrier and receive cells with. -/
def start (c : Dev nD) : sProp 𝕄 :=
  iprop((∃ K, ghost P K c) ∗ cred (tallyAt (barCell c) () 1) ∗ cred (tallyAt (rcvCell c) () (P.n (pr c) * N)) ∗ ∃ r, prngReg c r)

/-- After the three scoped cells have been opened. -/
def opened (K : GSem nD τ sig → ℕ) (c : Dev nD) : sProp 𝕄 :=
  iprop(invs P K c ∗ (atPos ER (barCell c) 0 ∅ 0 ∗ atPos ER (locCell c) 0 ∅ 0 ∗ atPos ER (sndCell c) 0 ∅ 0 ∗ atPos ER (rcvCell c) 0 ∅ 0)
    ∗ (reached ER (barCell (pr c)) 0 ∗ reached ER (locCell c) 0 ∗ reached ER (sndCell c) 0 ∗ reached ER (rcvCell c) 0) ∗ toks P c)

theorem close (κ : ℕ) (g : GSem nD τ sig) {R : ℕ} (hR : ∀ r, R ≤ r → (rd P).duties g r = ∅) :
    iprop(cellInv ER (rd P) κ g ∗ atPos ER g R ∅ 0) ⊢ (|={Set.univ}=> semVal g 0 : sProp 𝕄) :=
  Rounds.cell_close ER (rd P) (Set.mem_univ κ) id hR

abbrev 𝒱₀ : Variants := Variants.none

end Cert.KernelProof
-- ==== Proof.Words.lean ====
/-
  The words the host program computes on a device before the kernel: which tokens the device owns, the packed word of each token, the
  order the packed words are sorted in, and the two counts.
-/
module

public import proofs.«01_k».proof.Proof.Proto
public import Idealize.ShloMosaic.Lib.SortFacts
public import Idealize.ShloMosaic.Lib.Routing.Ops

@[expose] public section

noncomputable section

namespace Cert.KernelProof

open Cert.KernelIdeal Cert.KernelIdeal.Gen
open Idealize.ShloMosaic

/-! ## One token's word -/

/-- Which half of the table the device holds: its place on the last mesh axis. -/
abbrev half (c : Dev nD) : ℕ := c.val % 2

/-- The first row of the device's half, as the host program computes it from the device's number. -/
def base (c : Dev nD) : BitVec 32 := IntOp.muli (IntOp.remui .host (IntOp.divui .host (Dev.word c) 1#32) 2#32) 8192#32

theorem base_eq (c : Dev nD) : base c = BitVec.ofNat 32 (8192 * half c) := by revert c; decide

theorem half_pr (c : Dev nD) : half (pr c) = 1 - half c := by revert c; decide
theorem half_lt (c : Dev nD) : half c < 2 := Nat.mod_lt _ (by decide)

/-- The host program's mask at a token of row `v`: one where the row lies in the device's half. -/
def ownBit (c : Dev nD) (v : BitVec 32) : BitVec 1 :=
  IntOp.andi (IntOp.cmpi .sge (IntOp.subi v (base c)) 0#32) (IntOp.cmpi .slt (IntOp.subi v (base c)) 8192#32)

/-- The host program's packed word of token `t` at row `v`. -/
def packed (c : Dev nD) (t : ℕ) (v : BitVec 32) : BitVec 32 :=
  if ownBit c v = 1#1 then
    IntOp.ori (IntOp.shli .host (BitVec.ofNat 32 t) 13#32) (IntOp.minsi 8191#32 (IntOp.maxsi 0#32 (IntOp.subi v (base c))))
  else IntOp.addi 1073741824#32 (BitVec.ofNat 32 t)

theorem slt_small (a b : BitVec 32) (ha : a.toNat < 2 ^ 31) (hb : b.toNat < 2 ^ 31) : a.slt b = decide (a.toNat < b.toNat) := by
  rw [BitVec.slt, BitVec.toInt_eq_toNat_of_lt (by omega), BitVec.toInt_eq_toNat_of_lt (by omega)]
  simp

theorem ofBool_and (a b : Bool) : BitVec.ofBool a &&& BitVec.ofBool b = 1#1 ↔ a = true ∧ b = true := by revert a b; decide

theorem ofBool_beq (b : Bool) : (BitVec.ofBool b == 1#1) = b := by revert b; decide

theorem signed_range (d : BitVec 32) : ((0#32).sle d = true ∧ d.slt 8192#32 = true) ↔ d.toNat < 8192 := by
  have hd := d.isLt
  simp only [BitVec.sle, BitVec.slt, BitVec.toInt_eq_toNat_cond, decide_eq_true_eq, BitVec.toNat_ofNat]
  split_ifs <;> omega

/-- The row relative to the device's half, as a natural. -/
theorem sub_base (c : Dev nD) (v : BitVec 32) (hv : v.toNat < 16384) :
    (IntOp.subi v (base c)).toNat = (v.toNat + 2 ^ 32 - 8192 * half c) % 2 ^ 32 := by
  have := half_lt c
  rw [base_eq]
  show (v - _).toNat = _
  rw [BitVec.toNat_sub, BitVec.toNat_ofNat]
  omega

/-- For a row of the table, the mask is one exactly where the row lies in the device's half. -/
theorem ownBit_iff (c : Dev nD) (v : BitVec 32) (hv : v.toNat < 16384) : ownBit c v = 1#1 ↔ v.toNat / 8192 = half c := by
  have h := sub_base c v hv
  have := half_lt c
  refine (ofBool_and _ _).trans ((signed_range _).trans ?_)
  rw [h]
  omega

/-- An owned token's packed word is its number times 8192, plus the row within the device's half. -/
theorem packed_own (c : Dev nD) (t : ℕ) (v : BitVec 32) (ht : t < 1024) (hv : v.toNat < 16384) (ho : v.toNat / 8192 = half c) :
    (packed c t v).toNat = t * 8192 + v.toNat % 8192 := by
  have h := sub_base c v hv
  have := half_lt c
  generalize hd : IntOp.subi v (base c) = d at h
  have hdn : d.toNat = v.toNat % 8192 := by omega
  rw [packed, if_pos ((ownBit_iff c v hv).mpr ho), hd]
  have e1 : IntOp.maxsi 0#32 d = d := by
    unfold IntOp.maxsi
    rw [slt_small _ _ (by omega) (by decide), if_neg (by simp)]
  have e2 : IntOp.minsi 8191#32 d = d := by
    unfold IntOp.minsi
    rw [slt_small _ _ (by decide) (by omega)]
    split_ifs with hc
    · have := of_decide_eq_true hc
      simp at this
      omega
    · rfl
  have e3 : (IntOp.shli .host (BitVec.ofNat 32 t) 13#32) = BitVec.ofNat 32 t <<< 13 := by
    unfold IntOp.shli; rw [if_pos (by decide)]; rfl
  rw [e1, e2, e3]
  show (_ ||| _ : BitVec 32).toNat = _
  rw [BitVec.toNat_or, BitVec.toNat_shiftLeft, BitVec.toNat_ofNat, hdn, Nat.mod_eq_of_lt (show t < 2 ^ 32 by omega),
    Nat.mod_eq_of_lt (show t <<< 13 < 2 ^ 32 by rw [Nat.shiftLeft_eq]; omega), ← Nat.shiftLeft_add_eq_or_of_lt (by omega), Nat.shiftLeft_eq]

/-- Any other token's packed word is beyond every owned token's. -/
theorem packed_other (c : Dev nD) (t : ℕ) (v : BitVec 32) (ht : t < 1024) (hv : v.toNat < 16384) (ho : v.toNat / 8192 ≠ half c) :
    (packed c t v).toNat = 2 ^ 30 + t := by
  rw [packed, if_neg (fun h => ho ((ownBit_iff c v hv).mp h))]
  show (_ + _ : BitVec 32).toNat = _
  rw [BitVec.toNat_add, BitVec.toNat_ofNat, BitVec.toNat_ofNat]
  omega

/-! ## The sorted order -/

variable (ids : Dev nD → IVec S1024 32)

/-- Device `c` owns token `t`: its row lies in the device's half of the table. -/
def Owns (c : Dev nD) (t : Tok) : Prop := (ids c (ix t.val t.isLt)).toNat / 8192 = half c

instance (c : Dev nD) : DecidablePred (Owns ids c) := fun _ => inferInstanceAs (Decidable (_ = _))

/-- Every device's row numbers are rows of the table. -/
def InRange : Prop := ∀ c, ∀ t : Tok, (ids c (ix t.val t.isLt)).toNat < 16384

/-- The two devices of a pair find each token's row in the same half of the table. -/
def Agree : Prop := ∀ c, ∀ t : Tok, (ids c (ix t.val t.isLt)).toNat / 8192 = (ids (pr c) (ix t.val t.isLt)).toNat / 8192

/-- Device `c`'s packed words, before they are sorted. -/
def packs (c : Dev nD) : IVec S1024 32 := fun j => packed c (j 0).val (ids c j)

/-- The token whose word the sort puts at position `i`. -/
def order (c : Dev nD) : Tok → Tok :=
  sortedFrom fun k k' => comparator_i32_d0 (packs ids c (Shape.Idx.ofFin k)) (packs ids c (Shape.Idx.ofFin k')) == 1#1

/-- How many tokens device `c` owns. -/
def count (c : Dev nD) : ℕ := (Finset.univ.filter (Owns ids c)).card

/-- The two devices of a pair own as many tokens together as there are, whether or not they are the same ones twice. -/
def Balanced : Prop := ∀ c, count ids (pr c) = 1024 - count ids c

variable {ids}

theorem packs_own (hR : InRange ids) {c : Dev nD} {t : Tok} (h : Owns ids c t) :
    (packs ids c (Shape.Idx.ofFin t)).toNat = t.val * 8192 + (ids c (ix t.val t.isLt)).toNat % 8192 :=
  packed_own c t.val _ t.isLt (hR c t) h

theorem packs_other (hR : InRange ids) {c : Dev nD} {t : Tok} (h : ¬ Owns ids c t) :
    (packs ids c (Shape.Idx.ofFin t)).toNat = 2 ^ 30 + t.val :=
  packed_other c t.val _ t.isLt (hR c t) h

theorem packs_small (hR : InRange ids) (c : Dev nD) (t : Tok) : (packs ids c (Shape.Idx.ofFin t)).toNat < 2 ^ 31 := by
  by_cases h : Owns ids c t
  · rw [packs_own hR h]; omega
  · rw [packs_other hR h]; omega

theorem before_iff (hR : InRange ids) (c : Dev nD) (k k' : Tok) :
    (comparator_i32_d0 (packs ids c (Shape.Idx.ofFin k)) (packs ids c (Shape.Idx.ofFin k')) == 1#1)
      = decide ((packs ids c (Shape.Idx.ofFin k)).toNat < (packs ids c (Shape.Idx.ofFin k')).toNat) := by
  rw [← slt_small _ _ (packs_small hR c k) (packs_small hR c k')]
  exact ofBool_beq _

/-- The sort leaves the words in order. -/
theorem order_le (hR : InRange ids) (c : Dev nD) {i j : Tok} (h : i < j) :
    (packs ids c (Shape.Idx.ofFin (order ids c i))).toNat ≤ (packs ids c (Shape.Idx.ofFin (order ids c j))).toNat := by
  have := sortedFrom_noInversion _ (fun k k' => comparator_i32_d0 (packs ids c (Shape.Idx.ofFin k)) (packs ids c (Shape.Idx.ofFin k')) == 1#1)
    (fun a b hab => ?_) (fun _ _ h => h) (fun a b d hab hbd => ?_) i j h
  · rw [before_iff hR] at this
    exact Nat.le_of_not_lt (of_decide_eq_false this)
  · rw [before_iff hR] at hab ⊢
    have := of_decide_eq_true hab
    exact decide_eq_false (by omega)
  · rw [before_iff hR] at hab hbd ⊢
    have h1 := of_decide_eq_false hab
    have h2 := of_decide_eq_false hbd
    exact decide_eq_false (by omega)

theorem order_bij (c : Dev nD) : Function.Bijective (order ids c) := ⟨sortedFrom_injective _, sortedFrom_surjective _⟩

/-- A down-closed set of positions holds exactly the positions below its size. -/
theorem mem_iff_lt_card {n : ℕ} (s : Finset (Fin n)) (hs : ∀ i j, i < j → j ∈ s → i ∈ s) (i : Fin n) : i ∈ s ↔ i.val < s.card := by
  have hdown : ∀ j ∈ s, Finset.Iic j ⊆ s := fun j hj k hk => by
    rcases (Finset.mem_Iic.mp hk).lt_or_eq with h | rfl
    · exact hs k j h hj
    · exact hj
  constructor
  · intro hi
    have := Finset.card_le_card (hdown i hi)
    rw [Fin.card_Iic] at this
    omega
  · intro hi
    by_contra hn
    have hsub : s ⊆ Finset.Iio i := fun j hj => Finset.mem_Iio.mpr (lt_of_not_ge fun h => hn (hdown j hj (Finset.mem_Iic.mpr h)))
    have := Finset.card_le_card hsub
    rw [Fin.card_Iio] at this
    omega

/-- The owned tokens are sorted to the front: position `i` holds one exactly when `i` is below their number. -/
theorem owns_order (hR : InRange ids) (c : Dev nD) (i : Tok) : Owns ids c (order ids c i) ↔ i.val < count ids c := by
  have hcard : (Finset.univ.filter fun i => Owns ids c (order ids c i)).card = count ids c := by
    rw [count, ← Finset.card_map ⟨order ids c, (order_bij c).1⟩]
    congr 1
    ext t
    obtain ⟨j, rfl⟩ := (order_bij (ids := ids) c).2 t
    simp [(order_bij (ids := ids) c).1.eq_iff]
  rw [← hcard, ← mem_iff_lt_card]
  · simp
  · intro i j hij hj
    rw [Finset.mem_filter] at hj ⊢
    refine ⟨Finset.mem_univ _, by_contra fun hn => ?_⟩
    have h := order_le hR c hij
    rw [packs_other hR hn, packs_own hR hj.2] at h
    omega

/-- Where the pair agrees, what one device of it does not own, the other does. -/
theorem owns_pr (hR : InRange ids) (hA : Agree ids) (c : Dev nD) (t : Tok) : Owns ids (pr c) t ↔ ¬ Owns ids c t := by
  have h0 := hR c t
  have h1 := hA c t
  have h2 := half_pr c
  have := half_lt c
  unfold Owns
  omega

theorem count_le (c : Dev nD) : count ids c ≤ 1024 := (Finset.card_le_univ _).trans_eq (Fintype.card_fin 1024)

/-! ## The count -/

theorem sum_indicator {N : ℕ} (p : Fin N → Prop) [DecidablePred p] :
    ((List.range N).map fun i => if h : i < N then (if p ⟨i, h⟩ then 1 else 0) else 0).sum = (Finset.univ.filter p).card := by
  rw [Finset.card_filter]
  refine (Finset.sum_range (n := N) fun i => if h : i < N then (if p ⟨i, h⟩ then 1 else 0) else 0).trans (Finset.sum_congr rfl fun i _ => ?_)
  exact dif_pos i.isLt

/-- The sum of a widened mask is the number of tokens it is one at. -/
theorem bits_sum (b : IVec S1024 1) (p : Tok → Prop) [DecidablePred p] (hb : ∀ t : Tok, b (ix t.val t.isLt) = 1#1 ↔ p t) (hw : 1 < 32)
    (h : S1024.ReducesTo [0] S_) (hu : 0 < S_.numel) :
    Host.reduce IntOp.addi (extui 32 b hw) (constantI S_ 32 0#32) h hu ValueIdx.ix0 = BitVec.ofNat 32 (Finset.univ.filter p).card := by
  refine (Routing.reduce_sum _ (fun i => if h : i < 1024 then (if p ⟨i, h⟩ then 1 else 0) else 0) (fun i => ?_) h hu).trans
    (congrArg _ (sum_indicator p))
  rw [dif_pos i.isLt]
  have e : (ValueIdx.ix1 i : S1024.Idx) = ix i.val i.isLt := by funext a; fin_cases a; rfl
  show (b (ValueIdx.ix1 i)).setWidth 32 = _
  rw [e]
  have h01 : ∀ b : BitVec 1, b.setWidth 32 = BitVec.ofNat 32 (if b = 1#1 then 1 else 0) := by decide
  rw [h01]
  congr 1
  exact if_congr (hb i) rfl rfl

/-- The host program's sum of the widened mask is the number of owned tokens. -/
theorem mask_sum (hR : InRange ids) (c : Dev nD) (h : S1024.ReducesTo [0] S_) (hu : 0 < S_.numel) :
    Host.reduce IntOp.addi (extui 32 (fun j => ownBit c (ids c j)) natLt_1_32) (constantI S_ 32 0#32) h hu ValueIdx.ix0
      = BitVec.ofNat 32 (count ids c) :=
  bits_sum _ (Owns ids c) (fun t => ownBit_iff c _ (hR c t)) natLt_1_32 h hu

end Cert.KernelProof
end
-- ==== Proof.Body.lean ====
/-
  The kernel's body on one device, against the protocol of Proto.lean: what a wait loop collects, what a trip of the issuing loop
  starts, and the body from its entry (`bodyPre`) to its exit (`bodyPost`).
-/
module

public import proofs.«01_k».proof.Proof.Proto

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type}

local notation "𝕄" => MT nD τ sig Unit (Elt F) ℕ (UU F) ℕ

variable [FloatOps F] (P : Plan F)

/-! ## Small facts -/

/-- Credit of `a + b` units is credit of `a` and of `b`. -/
theorem cred_split (g : GSem nD τ sig) (a b : ℕ) :
    (cred (tallyAt g () (a + b)) : sProp 𝕄) ⊣⊢ iprop(cred (tallyAt g () a) ∗ cred (tallyAt g () b)) := by
  rw [← tallyAt_add]; exact cred_add _ _

theorem cred_none (g : GSem nD τ sig) : (cred (tallyAt g () 0) : sProp 𝕄) = BIBase.emp := by rw [tallyAt_zero, cred_zero]

/-- A part of a `bigSep` and the rest make it whole. -/
theorem bigSep_rejoin {ι : Type} [DecidableEq ι] {s t : Finset ι} (h : t ⊆ s) (Φ : ι → sProp 𝕄) :
    iprop(bigSep t Φ ∗ bigSep (s \ t) Φ) ⊢ bigSep s Φ := Entails.of_eq (bigSep_sdiff_split h).symm

/-- A `bigSep` over the tokens a device owns, by its trips. -/
theorem bigSep_own (c : Dev nD) (Φ : Tok → sProp 𝕄) :
    bigSep (own P c) Φ = bigSep (Finset.Ico 0 (P.n c)) (fun i => Φ (P.tk c i)) := by
  unfold own; rw [bigSep_image_of_injOn (tk_injOn P c), Finset.range_eq_Ico]

theorem trips_own {v : BitVec 32} {n : ℕ} (hv : v = BitVec.ofNat 32 n) (hn : n ≤ 1024) : (k0_t1_loop v).trips = n := by
  show Scf.trips 0#32 (Scalar.addi 0#32 (Scalar.muli (Scalar.divsi (Scalar.subi v 0#32) 1#32) 1#32)) 1#32 = n
  rw [Scalar.muli_divsi_one, hv]
  show Scf.trips 0#32 (0#32 + (BitVec.ofNat 32 n - 0#32)) 1#32 = n
  rw [BitVec.sub_zero, BitVec.zero_add]
  have h0 : (0#32 : BitVec 32).toInt = 0 := by decide
  have h1 : (1#32 : BitVec 32).toInt = 1 := by decide
  have h2 : (BitVec.ofNat 32 n).toInt = n := by
    rw [BitVec.toInt_eq_toNat_of_lt]
    · rw [BitVec.toNat_ofNat, Nat.mod_eq_of_lt (by omega)]
    · rw [BitVec.toNat_ofNat, Nat.mod_eq_of_lt (by omega)]; omega
  unfold Scf.trips; rw [h0, h1, h2]; omega

/-- The remainder loop of a count makes no trip. -/
theorem trips_rem (v : BitVec 32) : (k0_t2_loop v).trips = 0 := Scf.rem_trips _ _

/-! ## A wait loop -/

section Drain

variable (c : Dev nD) (s : DmaSem sig)

abbrev dcell : GSem nD τ sig := ((c : Thread nD τ), .dma s)

/-- Before wait `k` of the `n` of one cell: some of its payloads taken, the rest still expected; after the last, all of them. -/
def drainInv (κ n k : ℕ) : sProp 𝕄 :=
  iprop(cellInv ER (rd P) κ (dcell c s) ∗ (∃ W, owes (c : Thread nD τ) (0 : CellTallies nD τ sig Unit) W)
    ∗ ((⌜k < n⌝ ∗ cred (tallyAt (dcell c s) () ((n - k) * N))
        ∗ ∃ T, ⌜T ⊆ (rd P).duties (dcell c s) 0⌝ ∗ atPos ER (dcell c s) 0 T (k * N) ∗ bigSep T (fun t => (rd P).payload (dcell c s) 0 t))
      ∨ (⌜n ≤ k⌝ ∗ (∃ R, ⌜∀ r, R ≤ r → (rd P).duties (dcell c s) r = ∅⌝ ∗ atPos ER (dcell c s) R ∅ 0)
        ∗ bigSep ((rd P).duties (dcell c s) 0) (fun t => (rd P).payload (dcell c s) 0 t))))

/-- One wait. -/
theorem drain_step (κ n k : ℕ) (hk : k < n) (hn : ((rd P).duties (dcell c s) 0).card = n) {sp sp' : Space}
    {src : Memref sig .tc sp S1x1024 .f32} {dst : Memref sig .tc sp' S1x1024 .f32} {h1 : src.view.WordExact} {h2 : dst.view.WordExact}
    (hd : dst.view.dmaCredit = N) {Q : Unit → sProp 𝕄} (hQ : drainInv P c s κ n (k + 1) ⊢ Q ⟨⟩) :
    drainInv P c s κ n k ⊢ wp frame (wpE (defs₀ (F := F)) 𝒱₀ (c : Thread nD τ) none) Set.univ (.op (.waitDma2 s src dst h1 h2) fun _ => .ret ⟨⟩) Q := by
  have hw : ∀ K : PUnit → sProp 𝕄, wpE (defs₀ (F := F)) 𝒱₀ (c : Thread nD τ) none Set.univ (.waitDma2 s src dst h1 h2) K
      = waitSpec (c : Thread nD τ) Set.univ (.dma s) N K := fun K => by rw [wpE_waitDma2_eq, hd]
  have hex : (rd P).expect (dcell c s) 0 = n * N := by rw [expect_dma, hn]
  unfold drainInv
  iintro ⟨#HI, ⟨%W, HO⟩, H⟩
  icases H with (⟨-, HC, %T, %hT, Hat, HT⟩ | ⟨%hge, -⟩)
  rotate_left
  · exact absurd hk (by omega)
  ihave HC' := (show (cred (tallyAt (dcell c s) () ((n - k) * N)) : sProp 𝕄) ⊢ iprop(cred (tallyAt (dcell c s) () N) ∗ cred (tallyAt (dcell c s) () ((n - (k + 1)) * N))) from by
    rw [show (n - k) * N = N + (n - (k + 1)) * N by rw [show n - k = (n - (k + 1)) + 1 by omega, Nat.add_mul, Nat.one_mul, Nat.add_comm]]
    exact (cred_split _ _ _).1) $$ HC
  icases HC' with ⟨HC1, HC2⟩
  by_cases hlast : k + 1 = n
  · iapply (Rounds.wp_wait_rest_token 𝒱₀ ER (rd P) (c : Thread nD τ) none (κ := κ) hw (Set.mem_univ _) () (R := 0) (m := k * N) (T := T) (W := W) (O := 0)
      (by rw [hex, ← hlast, Nat.add_mul, Nat.one_mul])) $$ [HC1 HO Hat]
    · isplitr; · iexact HI
      isplitl [HC1]; · iexact HC1
      isplitl [HO]; · iexact HO
      isplitr; · rw [MayWait_zero]; iempintro
      iexact Hat
    iintro ⟨HO, Hat, -, Hpay⟩
    rw [wp_ret]; imodintro
    iapply hQ
    unfold drainInv
    isplitr; · iexact HI
    isplitl [HO]; · iexists _; iexact HO
    iright
    isplitr; · ipureintro; omega
    isplitl [Hat]
    · iexists 1; isplitr; · ipureintro; exact duties_later P _
      iexact Hat
    · iapply (bigSep_rejoin hT (fun t => (rd P).payload (dcell c s) 0 t))
      isplitl [HT] <;> iassumption
  · iapply (Rounds.wp_wait 𝒱₀ ER (rd P) (c : Thread nD τ) none (κ := κ) hw (Set.mem_univ _) {(SemLoc.dma s, ())} (cr := Finsupp.single () N) (R := 0)
      (m := k * N) (T := T) (W := W) (O := 0) (by rw [Util.total_single]) (image_single_subset _ () N)) $$ [HC1 HO Hat]
    · isplitr; · iexact HI
      isplitl [HC1]; · iexact HC1
      isplitl [HO]; · iexact HO
      isplitr; · rw [MayOwe_zero]; iempintro
      iexact Hat
    iintro %S ⟨%hS, HO, Hat, Hpay⟩
    rw [wp_ret]; imodintro
    iapply hQ
    unfold drainInv
    isplitr; · iexact HI
    isplitl [HO]; · iexists _; iexact HO
    ileft
    isplitr; · ipureintro; omega
    isplitl [HC2]; · iexact HC2
    iexists S
    isplitr; · ipureintro; exact hS.2.1
    isplitl [Hat]; · rw [Nat.add_mul, Nat.one_mul]; iexact Hat
    iapply (bigSep_rejoin hS.1 (fun t => (rd P).payload (dcell c s) 0 t))
    isplitl [HT] <;> iassumption

/-- What a wait loop starts from, -/
def drainPre (κ n : ℕ) : sProp 𝕄 :=
  iprop(cellInv ER (rd P) κ (dcell c s) ∗ (∃ W, owes (c : Thread nD τ) (0 : CellTallies nD τ sig Unit) W)
    ∗ cred (tallyAt (dcell c s) () (n * N)) ∗ atPos ER (dcell c s) 0 ∅ 0)
/-- and what it ends with: every payload of the cell, at a position the cell can be closed at. -/
def drainPost : sProp 𝕄 :=
  iprop((∃ W, owes (c : Thread nD τ) (0 : CellTallies nD τ sig Unit) W)
    ∗ (∃ R, ⌜∀ r, R ≤ r → (rd P).duties (dcell c s) r = ∅⌝ ∗ atPos ER (dcell c s) R ∅ 0)
    ∗ bigSep ((rd P).duties (dcell c s) 0) (fun t => (rd P).payload (dcell c s) 0 t))

theorem drain_start (κ n : ℕ) (hn : ((rd P).duties (dcell c s) 0).card = n) : drainPre P c s κ n ⊢ drainInv P c s κ n 0 := by
  unfold drainInv drainPre
  iintro ⟨#HI, HO, HC, Hat⟩
  isplitr; · iexact HI
  isplitl [HO]; · iexact HO
  by_cases h0 : 0 < n
  · ileft
    isplitr; · ipureintro; exact h0
    isplitl [HC]; · rw [Nat.sub_zero]; iexact HC
    iexists ∅
    isplitr; · ipureintro; exact Finset.empty_subset _
    isplitl [Hat]; · rw [Nat.zero_mul]; iexact Hat
    rw [bigSep_empty]; iempintro
  · iright
    have he : (rd P).duties (dcell c s) 0 = ∅ := Finset.card_eq_zero.mp (by omega)
    isplitr; · ipureintro; omega
    isplitl [Hat]
    · iexists 0
      isplitr
      · ipureintro; intro r _
        rcases Nat.eq_zero_or_pos r with rfl | hr
        · exact he
        · exact duties_later P _ r hr
      iexact Hat
    rw [he, bigSep_empty]; iempintro

theorem drain_end (κ n : ℕ) : drainInv P c s κ n n ⊢ drainPost P c s := by
  unfold drainInv drainPost
  iintro ⟨-, HO, H⟩
  icases H with (⟨%hlt, -⟩ | ⟨-, HR, HB⟩)
  · exact absurd hlt (Nat.lt_irrefl _)
  isplitl [HO]; · iexact HO
  isplitl [HR] <;> iassumption

/-- The whole loop. -/
theorem drain (κ n : ℕ) (hn : ((rd P).duties (dcell c s) 0).card = n) {sp sp' : Space}
    {src : Memref sig .tc sp S1x1024 .f32} {dst : Memref sig .tc sp' S1x1024 .f32} {h1 : src.view.WordExact} {h2 : dst.view.WordExact}
    (hd : dst.view.dmaCredit = N) (lp : Scf.Loop 32) (hok : lp.OK) (htr : lp.trips = n)
    {α : Type} {kk : Unit → Prog (TpuEff nD τ sig (Elt F) Λ₀ .tc) α} {Q : α → sProp 𝕄} :
    drainPre P c s κ n
      ⊢ iprop((drainPost P c s -∗ wp frame (wpE (defs₀ (F := F)) 𝒱₀ (c : Thread nD τ) none) Set.univ (kk ⟨⟩) Q)
        -∗ wp frame (wpE (defs₀ (F := F)) 𝒱₀ (c : Thread nD τ) none) Set.univ
          (Scf.Loop.for lp hok ⟨⟩ (fun _ _ => .op (.waitDma2 s src dst h1 h2) fun _ => .ret ⟨⟩) >>= kk) Q) := by
  subst htr
  have hstep : ∀ (k : Fin (Scf.trips lp.lb lp.ub lp.st)) (_ : Unit), drainInv P c s κ lp.trips k.val
      ⊢ wp frame (wpE (defs₀ (F := F)) 𝒱₀ (c : Thread nD τ) none) Set.univ
        (.op (.waitDma2 s src dst h1 h2) fun _ => .ret ⟨⟩) (fun _ : Unit => drainInv P c s κ lp.trips (k.val + 1)) := fun k _ =>
    drain_step P c s κ lp.trips k.val k.isLt hn hd .rfl
  have h := Scf.wp_for_bind frame (wpE (defs₀ (F := F)) 𝒱₀ (c : Thread nD τ) none) Set.univ lp.lb lp.ub lp.st hok ⟨⟩
    _ (fun k _ => drainInv P c s κ lp.trips k) hstep (kk := kk) (Q := Q)
  refine BIClass.wand_intro ((sep_mono_left ((drain_start P c s κ _ hn).trans h)).trans (BIClass.wand_elim (wand_mono ?_ .rfl)))
  exact forall_intro fun _ => BIClass.wand_intro ((sep_mono_right (drain_end P c s κ lp.trips)).trans (BIClass.wand_elim .rfl))

end Drain

end Cert.KernelProof
-- ==== Proof.Issue.lean ====
/-
  The issuing loop on one device: each trip reads a packed word and starts the local and the remote copy of the row it names.
-/
module

public import proofs.«01_k».proof.Proof.Body
public import Idealize.SL.BI.BigOpNat

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type}

local notation "𝕄" => MT nD τ sig Unit (Elt F) ℕ (UU F) ℕ

/-! ## Words -/

theorem toInt_ofNat {n : ℕ} (hn : n ≤ 1024) : (BitVec.ofNat 32 n).toInt = n := by
  rw [BitVec.toInt_eq_toNat_of_lt] <;> rw [BitVec.toNat_ofNat, Nat.mod_eq_of_lt (by omega)]; omega

theorem ok_own {v : BitVec 32} {n : ℕ} (hv : v = BitVec.ofNat 32 n) (hn : n ≤ 1024) : (k0_t1_loop v).OK := by
  show Scf.OK 0#32 (Scalar.addi 0#32 (Scalar.muli (Scalar.divsi (Scalar.subi v 0#32) 1#32) 1#32)) 1#32
  have ht : Scf.trips 0#32 (Scalar.addi 0#32 (Scalar.muli (Scalar.divsi (Scalar.subi v 0#32) 1#32) 1#32)) 1#32 = n := trips_own hv hn
  have h0 : (0#32 : BitVec 32).toInt = 0 := by decide
  have h1 : (1#32 : BitVec 32).toInt = 1 := by decide
  unfold Scf.OK; rw [ht, h0, h1]; omega

theorem iv_eq (k : ℕ) (hk : k < 1024) : (Scalar.indexCast (Scf.iv 0#32 1#32 k)).toNat = k := by
  show (0#32 + BitVec.ofNat 32 k * 1#32).toNat = k
  rw [BitVec.mul_one, BitVec.zero_add, BitVec.toNat_ofNat, Nat.mod_eq_of_lt (by omega)]

theorem off1_eq {v : BitVec 32} {n : ℕ} (hv : v = BitVec.ofNat 32 n) (hn : n ≤ 1024) (k : Fin (k0_t1_loop v).trips) :
    k0_off1 v k = ![k.val] := by
  have hk : k.val < 1024 := lt_of_lt_of_le (lt_of_lt_of_eq k.isLt (trips_own hv hn)) hn
  show ![(Scalar.indexCast (Scf.iv 0#32 1#32 k)).toNat] = _
  rw [iv_eq _ hk]

theorem chk1_own {v : BitVec 32} {n : ℕ} (hv : v = BitVec.ofNat 32 n) (hn : n ≤ 1024) : k0_chk1 v := by
  refine ⟨ok_own hv hn, fun k a => ?_, Scf.rem_ok _ _, fun k => (Scf.rem_no_trip _ _ k).elim, ok_own hv hn, Scf.rem_ok _ _, ok_own hv hn, Scf.rem_ok _ _⟩
  have hk : k.val < 1024 := lt_of_lt_of_le (lt_of_lt_of_eq k.isLt (trips_own hv hn)) hn
  rw [off1_eq hv hn]; fin_cases a; show k.val + 1 ≤ 1024; omega

theorem chk4_own {v : BitVec 32} {n : ℕ} (hv : v = BitVec.ofNat 32 n) (hn : n ≤ 1024) : k0_chk4 v := ⟨ok_own hv hn, Scf.rem_ok _ _⟩

/-! ## A row's two copies -/

variable [FloatOps F] (P : Plan F)

/-- A share of device `c`'s half of the table. -/
abbrev eAll (c : Dev nD) (q : PosShare TreeShare) : sProp 𝕄 := eM.view.loc (c : Thread nD τ) ↦[Finset.univ]{q} P.e c

/-- What token `t`'s copies from device `c` take: three duty tokens, the right to write the row of both outputs, two shares of the table. -/
def tokAt (c : Dev nD) (t : Tok) : sProp 𝕄 :=
  iprop((dutyTok ER (locCell c) 0 t ∗ dutyTok ER (sndCell c) 0 t ∗ dutyTok ER (rcvCell (pr c)) 0 t)
    ∗ (∃ f, wPts P c qN t f ∅) ∗ (∃ f, wPts P (pr c) qF t f ∅) ∗ eAll P c (qL t) ∗ eAll P c (qR t))

abbrev eOff (c : Dev nD) (q : PosShare TreeShare) (r : Fin 8192) : sProp 𝕄 :=
  eM.view.loc (c : Thread nD τ) ↦[Finset.univ \ (eRow r).view.set]{q} P.e c

/-- What of those shares of the table the copies leave. -/
def restAt (c : Dev nD) (t : Tok) : sProp 𝕄 := iprop(eOff P c (qL t) (P.rw c t) ∗ eOff P c (qR t) (P.rw c t))

theorem eAll_split (c : Dev nD) (q : PosShare TreeShare) (r : Fin 8192) : eAll P c q ⊣⊢ iprop(ePts P c q r ∗ eOff P c q r) :=
  pointsTo_split_subset (Finset.subset_univ _)

/-- A copy from device `c` may write its row of the output of either device of the pair: the row is then marked written. -/
theorem landed (ιw : ℕ) (c c' : Dev nD) (hc : c' = c ∨ c' = pr c) {i : ℕ} (hi : i < P.n c) (q : PosShare TreeShare)
    (f : (outR : Ref sig .tc).ty.Contents (Elt F)) :
    iprop(wmInv (EW : UEmb (WmRA nD τ sig (Elt F)) (UU F)) ιw ∗ wPts P c' q (P.tk c i) f ∅)
      ⊢ (writeUpdate (c' : Thread nD τ) (oRow (P.tk c i)).view ((eRow (P.rw c (P.tk c i))).view.read (Elt F) (P.e c))
          (wPts P c' q (P.tk c i) f (oSet (P.tk c i))) : sProp 𝕄) := by
  refine (willBeTo_writeUpdate (emb := EW) (ιwm := ιw) (q := q) (f := f) (g := P.tgt c') (W := ∅) (c' : Thread nD τ) (v := (oRow (P.tk c i)).view)
    (S := (oRow (P.tk c i)).view.set) (Finset.Subset.refl _) (P.row c c' i hc hi)).trans (Entails.of_eq ?_)
  rw [Finset.empty_union]

/-- The two copies of one row. -/
theorem two_copies (K : GSem nD τ sig → ℕ) (c n : Dev nD) (hn : n = pr c) {i : ℕ} (hi : i < P.n c) {o2 o3 : Fin 2 → ℕ}
    (h2 : o2 = ![(P.tk c i).val, 0]) (h3 : o3 = ![(P.rw c (P.tk c i)).val, 0])
    (i2 : ∀ a, o2 a + S1x1024.size a ≤ S1024x1024.size a) (i3 : ∀ a, o3 a + S1x1024.size a ≤ S8192x1024.size a)
    {w1 w2 w3 w4 t1 t2} (k : ℕ) {W : Waits sig Unit} {Q : Unit → sProp 𝕄} :
    iprop(invs P K c ∗ reached ER (locCell c) 0 ∗ reached ER (sndCell c) 0 ∗ reached ER (rcvCell (pr c)) 0
        ∗ owes (c : Thread nD τ) (tallyAt (rcvCell (pr c)) () (k * N + N)) W ∗ tokAt P c (P.tk c i))
      ⊢ iprop(((∃ W, owes (c : Thread nD τ) (tallyAt (rcvCell (pr c)) () (k * N)) W) ∗ cred (tallyAt (locCell c) () N) ∗ cred (tallyAt (sndCell c) () N)
            ∗ restAt P c (P.tk c i) -∗ Q ⟨⟩)
        -∗ wp frame (wpE (defs₀ (F := F)) 𝒱₀ (c : Thread nD τ) none) Set.univ
          (.op (.enqueueDma (eM.slice (Rect.unit (s := S8192x1024) o3 S1x1024.size i3) (fun _ => rfl))
              (.here (oM.slice (Rect.unit (s := S1024x1024) o2 S1x1024.size i2) (fun _ => rfl))) (.dma locS) w1 w2 t1) fun _ =>
            .op (.enqueueDma (eM.slice (Rect.unit (s := S8192x1024) o3 S1x1024.size i3) (fun _ => rfl))
              (.remote (Dev.tc n) (oM.slice (Rect.unit (s := S1024x1024) o2 S1x1024.size i2) (fun _ => rfl)) (.dma sndS)) (.dma rcvS) w3 w4 t2) fun _ => .ret ⟨⟩) Q) := by
  subst hn h2 h3
  have hd : P.tk c i ∈ own P c := tk_mem P hi
  unfold invs tokAt
  iintro ⟨⟨#HW, -, #HIl, #HIs, -, -, #HIr⟩, #Hrl, #Hrs, #Hrr, HO, ⟨Htl, Hts, Htr⟩, ⟨%f, Ho⟩, ⟨%g, Hg⟩, HeL, HeR⟩ Hk
  ihave HeL' := (eAll_split P c (qL (P.tk c i)) (P.rw c (P.tk c i))).1 $$ HeL
  icases HeL' with ⟨HeL, HxL⟩
  ihave HeR' := (eAll_split P c (qR (P.tk c i)) (P.rw c (P.tk c i))).1 $$ HeR
  icases HeR' with ⟨HeR, HxR⟩
  unfold wmAny
  icases HW with ⟨%ιw, #HW⟩
  iapply (Rounds.wp_copy 𝒱₀ ER (rd P) (c : Thread nD τ) none (src := eRow (P.rw c (P.tk c i))) (dst := oRow (P.tk c i)) (sem := .dma locS)
    (q := qL (P.tk c i)) (fs := P.e c) (R := wPts P c qN (P.tk c i) f (oSet (P.tk c i))) (r := 0) (d := P.tk c i) (κ := K (locCell c)) (by rw [duties_loc]; exact hd) () N rfl
    (amount_dma P c locS _) (by rw [payload_loc]; exact sep_mono_left (exists_intro (Φ := fun f => wPts P c qN (P.tk c i) f (oSet (P.tk c i))) f))) $$ [HeL Ho Htl]
  · isplitr; · iexact HIl
    isplitl [HeL]; · iexact HeL
    isplitl [Ho]
    · iapply (landed P ιw c c (.inl rfl) hi qN f)
      isplitr; · iexact HW
      iexact Ho
    isplitl [Htl]; · iexact Htl
    iexact Hrl
  iintro Hcl
  iapply (Rounds.wp_send 𝒱₀ ER (rd P) (c : Thread nD τ) none (c' := (pr c : Thread nD τ)) (src := eRow (P.rw c (P.tk c i))) (dst := oRow (P.tk c i))
    (sS := .dma sndS) (sem := .dma rcvS)
    (q := qR (P.tk c i)) (fs := P.e c) (R := wPts P (pr c) qF (P.tk c i) g (oSet (P.tk c i))) (r₁ := 0) (r₂ := 0) (d₁ := P.tk c i) (d₂ := P.tk c i) (κ₁ := K (sndCell c)) (κ₂ := K (rcvCell (pr c)))
    (by rw [duties_snd]; exact hd) (by rw [duties_rcv, pr_pr]; exact hd) () () N rfl
    (amount_dma P c sndS _) (amount_dma P (pr c) rcvS _) (tallyAt (rcvCell (pr c)) () (k * N)) (tallyAt_add _ _ _ _).symm
    (by rw [payload_snd]; exact .rfl) (by rw [payload_rcv]; exact exists_intro (Φ := fun f => wPts P (pr c) qF (P.tk c i) f (oSet (P.tk c i))) g)) $$ [HeR Hg HO Hts Htr]
  · isplitr; · iexact HIs
    isplitr; · iexact HIr
    isplitl [HeR]; · iexact HeR
    isplitl [Hg]
    · iapply (landed P ιw c (pr c) (.inr rfl) hi qF g)
      isplitr; · iexact HW
      iexact Hg
    isplitl [HO]; · iexact HO
    isplitl [Hts]; · iexact Hts
    isplitr; · iexact Hrs
    isplitl [Htr]; · iexact Htr
    iexact Hrr
  iintro ⟨Hcs, HO⟩
  rw [wp_ret]; imodintro
  iapply Hk
  isplitl [HO]; · iexists _; iexact HO
  isplitl [Hcl]; · iexact Hcl
  isplitl [Hcs]; · iexact Hcs
  unfold restAt
  isplitl [HxL] <;> iassumption

/-! ## Reading a list in scalar memory -/

/-- One word of a list of `len` words, device `c`'s `b` at contents `f`. -/
theorem wp_load_word {len : ℕ} {b : Memref sig .tc .smem ⟨1, ![len]⟩ .i32} (c : Dev nD) (i : ℕ) (hi : i < len) {off : Fin 1 → ℕ} (hoff : off = ![i])
    (inb : ∀ a, off a + S1.size a ≤ (⟨1, ![len]⟩ : Shape).size a) {hl}
    {f : Buf (Elt F) (b.view.loc (c : Thread nD τ))} {α : Type} {kk : (S1.Idx → Elt F .i32) → Prog (TpuEff nD τ sig (Elt F) Λ₀ .tc) α} {Q : α → sProp 𝕄} :
    (b.view.loc (c : Thread nD τ) ↦[Finset.univ]{fullShare} f : sProp 𝕄)
      ⊢ iprop((∀ g, ⌜∀ x, g x = b.view.read (Elt F) f (ix i hi)⌝ -∗ (b.view.loc (c : Thread nD τ) ↦[Finset.univ]{fullShare} f)
          -∗ wp frame (wpE (defs₀ (F := F)) 𝒱₀ (c : Thread nD τ) none) Set.univ (kk g) Q)
        -∗ wp frame (wpE (defs₀ (F := F)) 𝒱₀ (c : Thread nD τ) none) Set.univ
          (.op (.load b (Rect.unit (s := ⟨1, ![len]⟩) off S1.size inb) hl) kk) Q) := by
  subst hoff
  iintro H Hk
  iapply (wp_load_rect (defs := defs₀ (F := F)) 𝒱₀ (c : Thread nD τ) none Set.univ (m := b) (hl := hl) (r := Rect.unit (s := ⟨1, ![len]⟩) ![i] S1.size inb) (k := kk) (S := Finset.univ)
    (Finset.subset_univ _)) $$ [H]
  · iexact H
  iintro H
  iapply Hk $$ [] H
  ipureintro
  intro x
  show b.view.read (Elt F) f _ = _
  congr 1
  funext a
  apply Fin.ext
  have ha : a = 0 := Subsingleton.elim _ _
  subst ha
  rw [Rect.emb_apply]
  show i + 1 * (x 0).val = i
  have : (x 0).val < 1 := (x 0).isLt
  omega

/-! ## The loop -/

abbrev pkPts (c : Dev nD) : sProp 𝕄 := (Memref.whole pkR).view.loc (c : Thread nD τ) ↦[Finset.univ]{fullShare} (P.pk c : Buf (Elt F) _)

/-- Before trip `k`: the tokens of the trips to come with what they take, those of the past ones with what is left, and the credits gathered. -/
def issueInv (K : GSem nD τ sig → ℕ) (c : Dev nD) (k : ℕ) : sProp 𝕄 :=
  iprop((invs P K c ∗ reached ER (locCell c) 0 ∗ reached ER (sndCell c) 0 ∗ reached ER (rcvCell (pr c)) 0)
    ∗ pkPts P c ∗ (∃ W, owes (c : Thread nD τ) (tallyAt (rcvCell (pr c)) () ((P.n c - k) * N)) W)
    ∗ cred (tallyAt (locCell c) () (k * N)) ∗ cred (tallyAt (sndCell c) () (k * N))
    ∗ bigSep (Finset.Ico k (P.n c)) (fun i => tokAt P c (P.tk c i)) ∗ bigSep (Finset.range k) (fun i => restAt P c (P.tk c i)))

theorem issue_step (K : GSem nD τ sig → ℕ) (c : Dev nD) {v : BitVec 32} (hv : v = BitVec.ofNat 32 (P.n c)) (hw1 : k0_chk1 v) {h0 h1 h2 h3}
    (k : Fin (k0_t1_loop v).trips) (u : Unit) :
    issueInv P K c k.val ⊢ wp frame (wpE (defs₀ (F := F)) 𝒱₀ (c : Thread nD τ) none) Set.univ
      (k0_t1_body (Memref.whole pkR) h0 (Memref.whole cnR) h1 eM h2 oM h3 cc0_scratch0 cc0_scratch1 cc0_scratch2 c v hw1 k u)
      (fun _ => issueInv P K c (k.val + 1)) := by
  have hkn : k.val < P.n c := lt_of_lt_of_eq k.isLt (trips_own hv (P.n_le c))
  have hk : k.val < 1024 := lt_of_lt_of_le hkn (P.n_le c)
  unfold k0_t1_body issueInv
  simp only [smemLoad, smemLoadElt, Prog.bind_op, Prog.bind_ret, Prog.bind_lift]
  iintro ⟨⟨#HI, #Hrl, #Hrs, #Hrr⟩, Hpk, ⟨%W, HO⟩, Hcl, Hcs, HT, HR⟩
  iapply (wp_load_word (b := Memref.whole pkR) c k.val hk (off1_eq hv (P.n_le c) k) _) $$ Hpk
  iintro %g %hg Hpk
  have hg' : ∀ x, g x = P.pk c (ix k.val hk) := hg
  have o2 := P.pk_out c k.val hk hkn
  have o3 := P.pk_in c k.val hk hkn
  rw [← hg' (Shape.Idx.first (numel1_S1.symm ▸ Nat.one_pos))] at o2 o3
  have hc2 : k0_chk2 (g (Shape.Idx.first (numel1_S1.symm ▸ Nat.one_pos))) := by
    unfold k0_chk2; rw [o2, o3]; exact ⟨oRow_inb _, eRow_inb _⟩
  iapply (wp_assume 𝒱₀ (c : Thread nD τ) none Set.univ hc2)
  ihave HT' := (Entails.of_eq (bigSep_Ico_succ_bot hkn (fun i => tokAt P c (P.tk c i)))) $$ HT
  icases HT' with ⟨Ht, HT⟩
  iapply (two_copies P K c _ (dev2_eq c) hkn o2 o3 _ _ (P.n c - (k.val + 1))) $$ [HO Ht]
  · isplitr; · iexact HI
    isplitr; · iexact Hrl
    isplitr; · iexact Hrs
    isplitr; · iexact Hrr
    isplitl [HO]
    · rw [show P.n c - k.val = P.n c - (k.val + 1) + 1 by omega, Nat.add_mul, Nat.one_mul]; iexact HO
    iexact Ht
  iintro ⟨HO, Hl, Hs, Hx⟩
  isplitr
  · isplitr; · iexact HI
    isplitr; · iexact Hrl
    isplitr; · iexact Hrs
    iexact Hrr
  isplitl [Hpk]; · iexact Hpk
  isplitl [HO]; · iexact HO
  isplitl [Hcl Hl]
  · rw [Nat.add_mul, Nat.one_mul]
    iapply (cred_split _ _ _).2
    isplitl [Hcl] <;> iassumption
  isplitl [Hcs Hs]
  · rw [Nat.add_mul, Nat.one_mul]
    iapply (cred_split _ _ _).2
    isplitl [Hcs] <;> iassumption
  isplitl [HT]; · iexact HT
  rw [bigSep_range_succ]
  isplitl [Hx] <;> iassumption

end Cert.KernelProof
-- ==== Proof.Rows.lean ====
/-
  The rows of a device's output in write mode: the whole buffer opened into the two halves of the right to write each row, and the halves
  closed again, those rows marked that have been written.
-/
module

public import proofs.«01_k».proof.Proof.Proto
public import Idealize.ShloMosaic.Lib.Ring

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig Unit (Elt F) ℕ (UU F) ℕ

variable (P : Plan F)

abbrev outPts (c : Dev nD) (f : (outR : Ref sig .tc).ty.Contents (Elt F)) : sProp 𝕄 := oM.view.loc (c : Thread nD τ) ↦[Finset.univ]{fullShare} f

/-- The output buffer is its rows. -/
theorem out_rows (c : Dev nD) (f : (outR : Ref sig .tc).ty.Contents (Elt F)) :
    (outPts c f : sProp 𝕄) = bigSep Finset.univ fun t => oPts c t f :=
  Ring.pointsTo_blocks (ℓ := oM.view.loc (c : Thread nD τ)) oSet (fun t t' h => oRow_disjoint h) oRow_cover f

/-- A share of the right to write row `t`, the row marked written if its token is in `S`. -/
def mayWrite (c : Dev nD) (q : PosShare TreeShare) (S : Finset Tok) (t : Tok) : sProp 𝕄 :=
  iprop(∃ f, wPts P c q t f (if t ∈ S then oSet t else ∅))

/-- The right to write a row is its two shares, whose marks join. -/
theorem wPts_share (c : Dev nD) (t : Tok) (f : (outR : Ref sig .tc).ty.Contents (Elt F)) (W W' : Finset S1024x1024.Idx) :
    (wPts P c fullShare t f (W ∪ W') : sProp 𝕄) ⊣⊢ iprop(wPts P c qN t f W ∗ wPts P c qF t f W') :=
  BI.Region.held_share (PosShare.mem_left_op_right fullShare) fun i _ => by
    have h := Idealize.SL.RA.Region.WB.mem_mk_op_mk (f i) (P.tgt c i) (decide (i ∈ W)) (decide (i ∈ W'))
    simp only [← Bool.decide_or, ← Finset.mem_union] at h
    exact h

/-- A row opened for its two possible writers. -/
theorem row_open (c : Dev nD) (f : (outR : Ref sig .tc).ty.Contents (Elt F)) (t : Tok) :
    iprop(wmAny ∗ oPts c t f) ⊢ (|={Set.univ}=> iprop((∃ f, wPts P c qN t f ∅) ∗ (∃ f, wPts P c qF t f ∅)) : sProp 𝕄) := by
  unfold wmAny
  iintro ⟨⟨%ιw, #HW⟩, H⟩
  imod (pointsTo_castIn (emb := EW) (ιwm := ιw) (E := Set.univ) (ℓ := (oRow t).view.loc (c : Thread nD τ)) (I := oSet t) (f := f) (P.tgt c) (Set.mem_univ _)) $$ [H] with H
  · isplitr; · iexact HW
    iexact H
  imodintro
  ihave H' := (wPts_share P c t f ∅ ∅).1 $$ [H]
  · rw [Finset.empty_union]; iexact H
  icases H' with ⟨HN, HF⟩
  isplitl [HN] <;> iexists f <;> iassumption

/-- The two shares of a row closed: where the plan is sure, so that the row has been written, it is the planned one. -/
theorem row_close (c : Dev nD) (t : Tok) :
    iprop(wmAny ∗ mayWrite P c qN (own P c) t ∗ mayWrite P c qF (own P (pr c)) t)
      ⊢ (|={Set.univ}=> iprop(∃ f, ⌜P.sure → ∀ i ∈ oSet t, f i = P.go c i⌝ ∗ oPts c t f) : sProp 𝕄) := by
  unfold wmAny mayWrite
  iintro ⟨⟨%ιw, #HW⟩, ⟨%f, HN⟩, ⟨%f', HF⟩⟩
  generalize hA : (if t ∈ own P c then oSet t else ∅) = A
  generalize hB : (if t ∈ own P (pr c) then oSet t else ∅) = B
  icombine HN HF gives %h
  have e : (wPts P c qF t f' B : sProp 𝕄) = wPts P c qF t f B :=
    BI.Region.willBe_congr (fun i hi => (h i (Finset.mem_inter.mpr ⟨hi, hi⟩)).1.1.symm) (fun _ _ => rfl) (fun _ _ => Iff.rfl)
  ihave HF := (Entails.of_eq e) $$ HF
  ihave H := (wPts_share P c t f A B).2 $$ [HN HF]
  · isplitl [HN] <;> iassumption
  imod (willBeTo_castOut (emb := EW) (ιwm := ιw) (E := Set.univ) (Set.mem_univ _)) $$ [H] with ⟨%u, %hu, H⟩
  · isplitr; · iexact HW
    iexact H
  imodintro
  iexists u
  isplitr
  · ipureintro
    intro hs i hi
    have hW : i ∈ A ∪ B := by
      rw [Finset.mem_union, ← hA, ← hB]
      rcases own_cover P hs c t with h | h
      · exact .inl (by rw [if_pos h]; exact hi)
      · exact .inr (by rw [if_pos h]; exact hi)
    exact (hu i hi).2 hW _ (congrFun (P.tgt_go hs c) i)
  iexact H

/-- All tokens are those of `S` and the others. -/
theorem bigSep_rest (S : Finset Tok) (Φ : Tok → sProp 𝕄) : bigSep Finset.univ Φ = iprop(bigSep S Φ ∗ bigSep (Finset.univ \ S) Φ) :=
  bigSep_sdiff_split (Finset.subset_univ S)

/-- The rows written and the others. -/
theorem mayWrite_gather (c : Dev nD) (q : PosShare TreeShare) (S : Finset Tok) :
    iprop(bigSep S (fun t => iprop(∃ f, wPts P c q t f (oSet t))) ∗ bigSep (Finset.univ \ S) (fun t => iprop(∃ f, wPts P c q t f ∅)))
      ⊢ (bigSep Finset.univ (mayWrite P c q S) : sProp 𝕄) := by
  rw [bigSep_rest S (mayWrite P c q S)]
  refine BIClass.sep_mono (Entails.of_eq (bigSep_congr fun t ht => ?_)) (Entails.of_eq (bigSep_congr fun t ht => ?_))
  · unfold mayWrite; rw [if_pos ht]
  · unfold mayWrite; rw [if_neg (Finset.mem_sdiff.mp ht).2]

/-- The whole buffer opened, -/
theorem out_open (c : Dev nD) (f : (outR : Ref sig .tc).ty.Contents (Elt F)) :
    iprop(wmAny ∗ outPts c f) ⊢ (|={Set.univ}=> iprop(bigSep Finset.univ (fun t => iprop(∃ f, wPts P c qN t f ∅))
      ∗ bigSep Finset.univ (fun t => iprop(∃ f, wPts P c qF t f ∅))) : sProp 𝕄) := by
  rw [out_rows, ← bigSep_sep']
  exact (bigSep_with_persistent fun t _ => row_open P c f t).trans (bigSep_fupd _ _)

/-- and closed: where the plan is sure, it is the planned output. -/
theorem out_close (c : Dev nD) (f₀ : (outR : Ref sig .tc).ty.Contents (Elt F)) :
    iprop(wmAny ∗ bigSep Finset.univ (mayWrite P c qN (own P c)) ∗ bigSep Finset.univ (mayWrite P c qF (own P (pr c))))
      ⊢ (|={Set.univ}=> iprop(∃ f, ⌜P.sure → f = P.go c⌝ ∗ outPts c f) : sProp 𝕄) := by
  rw [← bigSep_sep']
  refine ((bigSep_with_persistent fun t _ => row_close P c t).trans (bigSep_fupd _ _)).trans (fupd_mono ?_)
  by_cases hs : P.sure
  · refine (bigSep_mono (Ψ := fun t => oPts c t (P.go c)) fun t _ => ?_).trans ?_
    · show iprop(∃ f, ⌜P.sure → ∀ i ∈ oSet t, f i = P.go c i⌝ ∗ oPts c t f) ⊢ oPts c t (P.go c)
      iintro ⟨%f, %hf, H⟩
      iapply (Entails.of_eq (pointsTo_congr (hf hs))) $$ H
    · rw [← out_rows]
      show outPts c (P.go c) ⊢ iprop(∃ f, ⌜P.sure → f = P.go c⌝ ∗ outPts c f)
      iintro H
      iexists P.go c
      isplitr; · ipureintro; exact fun _ => rfl
      iexact H
  · refine (bigSep_mono (Ψ := fun t => iprop(∃ f, oPts c t f)) fun t _ => ?_).trans
      ((Ring.pointsTo_blocks_join_exists (ℓ := oM.view.loc (c : Thread nD τ)) oSet (fun t t' h => oRow_disjoint h) oRow_cover f₀).trans ?_)
    · show iprop(∃ f, ⌜P.sure → ∀ i ∈ oSet t, f i = P.go c i⌝ ∗ oPts c t f) ⊢ iprop(∃ f, oPts c t f)
      iintro ⟨%f, -, H⟩; iexists f; iexact H
    · iintro ⟨%f, H⟩
      iexists f
      isplitr; · ipureintro; exact fun h => absurd h hs
      iexact H

end Cert.KernelProof
-- ==== Proof.Run.lean ====
/-
  The kernel's body on one device, whole: the barrier, the copies, the three wait loops.
-/
module

public import proofs.«01_k».proof.Proof.Issue
public import proofs.«01_k».proof.Proof.Rows

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type}

local notation "𝕄" => MT nD τ sig Unit (Elt F) ℕ (UU F) ℕ

variable [FloatOps F] (P : Plan F)

/-! ## The table by shares -/

abbrev cnPts (c : Dev nD) : sProp 𝕄 := (Memref.whole cnR).view.loc (c : Thread nD τ) ↦[Finset.univ]{fullShare} (P.cn c : Buf (Elt F) _)

/-- The shares of the table the copies do not take. -/
def spare (c : Dev nD) : sProp 𝕄 :=
  iprop(eAll P c (shareDrop fullShare.left 1024) ∗ eAll P c (shareDrop fullShare.right 1024)
    ∗ bigSep (Finset.univ \ own P c) (fun t => eAll P c (qL t)) ∗ bigSep (Finset.univ \ own P c) (fun t => eAll P c (qR t)))

/-- The table, dealt out in two shares a token of device `c`'s and the spare ones. -/
theorem table_deal (c : Dev nD) : eAll P c fullShare
    ⊣⊢ iprop(bigSep (own P c) (fun t => eAll P c (qL t)) ∗ bigSep (own P c) (fun t => eAll P c (qR t)) ∗ spare P c) := by
  have h0 : eAll P c fullShare ⊣⊢ iprop(eAll P c fullShare.left ∗ eAll P c fullShare.right) := pointsTo_share (PosShare.mem_left_op_right _)
  have hL : eAll P c fullShare.left ⊣⊢ iprop(eAll P c (shareDrop fullShare.left 1024) ∗ bigSep Finset.univ (fun t : Tok => eAll P c (qL t))) := pointsTo_toks _ _
  have hR : eAll P c fullShare.right ⊣⊢ iprop(eAll P c (shareDrop fullShare.right 1024) ∗ bigSep Finset.univ (fun t : Tok => eAll P c (qR t))) := pointsTo_toks _ _
  rw [bigSep_rest (own P c)] at hL hR
  refine (h0.trans (sep_congr hL hR)).trans ?_
  unfold spare
  constructor
  · iintro ⟨⟨HdL, HL, HL'⟩, HdR, HR, HR'⟩
    isplitl [HL]; · iexact HL
    isplitl [HR]; · iexact HR
    isplitl [HdL]; · iexact HdL
    isplitl [HdR]; · iexact HdR
    isplitl [HL'] <;> iassumption
  · iintro ⟨HL, HR, HdL, HdR, HL', HR'⟩
    isplitl [HdL HL HL']
    · isplitl [HdL]; · iexact HdL
      isplitl [HL] <;> iassumption
    · isplitl [HdR]; · iexact HdR
      isplitl [HR] <;> iassumption

/-- What the copies take, gathered token by token. -/
theorem tokAt_gather (c : Dev nD) :
    iprop((bigSep (own P c) (fun t => dutyTok ER (locCell c) 0 t) ∗ bigSep (own P c) (fun t => dutyTok ER (sndCell c) 0 t)
        ∗ bigSep (own P c) (fun t => dutyTok ER (rcvCell (pr c)) 0 t))
      ∗ bigSep (own P c) (fun t => iprop(∃ f, wPts P c qN t f ∅)) ∗ bigSep (own P c) (fun t => iprop(∃ f, wPts P (pr c) qF t f ∅))
      ∗ bigSep (own P c) (fun t => eAll P c (qL t)) ∗ bigSep (own P c) (fun t => eAll P c (qR t)))
      ⊢ bigSep (Finset.Ico 0 (P.n c)) (fun i => tokAt P c (P.tk c i)) := by
  rw [← bigSep_own P c (fun t => tokAt P c t)]
  unfold tokAt
  refine Entails.of_eq ?_
  refine Eq.symm ((bigSep_sep _ _ _).trans ?_)
  refine congrArg₂ BI.sep ((bigSep_sep _ _ _).trans (congrArg₂ BI.sep rfl (bigSep_sep _ _ _))) ?_
  refine (bigSep_sep _ _ _).trans (congrArg₂ BI.sep rfl ?_)
  exact (bigSep_sep _ _ _).trans (congrArg₂ BI.sep rfl (bigSep_sep _ _ _))

/-- What came back of them, put together again. -/
theorem landed_gather (c : Dev nD) :
    iprop(bigSep (own P c) (fun t => locPay P c t) ∗ bigSep (own P c) (fun t => sndPay P c t) ∗ bigSep (Finset.range (P.n c)) (fun i => restAt P c (P.tk c i)))
      ⊢ iprop(bigSep (own P c) (fun t => iprop(∃ f, wPts P c qN t f (oSet t))) ∗ bigSep (own P c) (fun t => eAll P c (qL t)) ∗ bigSep (own P c) (fun t => eAll P c (qR t))) := by
  rw [show bigSep (Finset.range (P.n c)) (fun i => restAt P c (P.tk c i)) = bigSep (own P c) (fun t => restAt P c t) by
    rw [bigSep_own, Finset.range_eq_Ico]]
  refine (Entails.of_eq (congrArg₂ BI.sep rfl (bigSep_sep _ _ _).symm |>.trans (bigSep_sep _ _ _).symm)).trans ?_
  refine (bigSep_mono (Ψ := fun t => iprop((∃ f, wPts P c qN t f (oSet t)) ∗ eAll P c (qL t) ∗ eAll P c (qR t))) fun t _ => ?_).trans
    (Entails.of_eq ((bigSep_sep _ _ _).trans (congrArg₂ BI.sep rfl (bigSep_sep _ _ _))))
  show iprop(locPay P c t ∗ sndPay P c t ∗ restAt P c t) ⊢ iprop((∃ f, wPts P c qN t f (oSet t)) ∗ eAll P c (qL t) ∗ eAll P c (qR t))
  unfold locPay sndPay restAt
  iintro ⟨⟨Ho, HL⟩, HR, HxL, HxR⟩
  isplitl [Ho]; · iexact Ho
  isplitl [HL HxL]
  · iapply (eAll_split P c (qL t) (P.rw c t)).2
    isplitl [HL] <;> iassumption
  · iapply (eAll_split P c (qR t) (P.rw c t)).2
    isplitl [HR] <;> iassumption

/-! ## The body -/

theorem loop_none {E : Type → Type} {σ : Type} (lp : Scf.Loop 32) (h : lp.trips = 0) (hok : lp.OK) (init : σ) (body : Fin lp.trips → σ → Prog E σ) :
    Scf.Loop.for lp hok init body = .ret init := Scf.for_eq_ret _ _ _ hok init body h

theorem issue_loop (K : GSem nD τ sig → ℕ) (c : Dev nD) {v : BitVec 32} (hv : v = BitVec.ofNat 32 (P.n c)) (hw1 : k0_chk1 v) (hok : (k0_t1_loop v).OK) {h0 h1 h2 h3}
    {α : Type} {kk : Unit → Prog (TpuEff nD τ sig (Elt F) Λ₀ .tc) α} {Q : α → sProp 𝕄} :
    issueInv P K c 0 ⊢ iprop((issueInv P K c (P.n c) -∗ wp frame (wpE (defs₀ (F := F)) 𝒱₀ (c : Thread nD τ) none) Set.univ (kk ⟨⟩) Q)
      -∗ wp frame (wpE (defs₀ (F := F)) 𝒱₀ (c : Thread nD τ) none) Set.univ
        (Scf.Loop.for (k0_t1_loop v) hok ⟨⟩ (k0_t1_body (Memref.whole pkR) h0 (Memref.whole cnR) h1 eM h2 oM h3 cc0_scratch0 cc0_scratch1 cc0_scratch2 c v hw1)
          >>= kk) Q) := by
  have h := Scf.wp_for_bind frame (wpE (defs₀ (F := F)) 𝒱₀ (c : Thread nD τ) none) Set.univ (k0_t1_loop v).lb (k0_t1_loop v).ub (k0_t1_loop v).st hok ⟨⟩
    (k0_t1_body (Memref.whole pkR) h0 (Memref.whole cnR) h1 eM h2 oM h3 cc0_scratch0 cc0_scratch1 cc0_scratch2 c v hw1)
    (fun k _ => issueInv P K c k) (issue_step P K c hv hw1) (kk := kk) (Q := Q)
  refine BIClass.wand_intro ((sep_mono_left h).trans (BIClass.wand_elim (wand_mono ?_ .rfl)))
  refine forall_intro fun _ => ?_
  rw [show Scf.trips (k0_t1_loop v).lb (k0_t1_loop v).ub (k0_t1_loop v).st = P.n c from trips_own hv (P.n_le c)]

/-- What the body starts from, the output at any contents `f`, -/
def bodyPre (K : GSem nD τ sig → ℕ) (c : Dev nD) (f : (outR : Ref sig .tc).ty.Contents (Elt F)) (W : Waits sig Unit) : sProp 𝕄 :=
  iprop(opened P K c ∗ cred (tallyAt (barCell c) () 1) ∗ cred (tallyAt (rcvCell c) () (P.n (pr c) * N)) ∗ levAts L lv
    ∗ outPts c f ∗ eAll P c fullShare ∗ pkPts P c ∗ cnPts P c ∗ owes (c : Thread nD τ) (O₀ P c) W)

/-- and what it ends with: all four counters at zero, the output planned if the plan is sure, everything else as it was, nothing owed. -/
def bodyPost (c : Dev nD) : sProp 𝕄 :=
  iprop((semVal (barCell c) 0 ∗ semVal (locCell c) 0 ∗ semVal (sndCell c) 0 ∗ semVal (rcvCell c) 0)
    ∗ (∃ f, ⌜P.sure → f = P.go c⌝ ∗ outPts c f) ∗ eAll P c fullShare ∗ pkPts P c ∗ cnPts P c ∗ ∃ W, owes (c : Thread nD τ) (0 : CellTallies nD τ sig Unit) W)

theorem bodyRun (K : GSem nD τ sig → ℕ) (c : Dev nD) (f : (outR : Ref sig .tc).ty.Contents (Elt F)) (W : Waits sig Unit) {h0 h1 h2 h3} (Kt : PUnit → sProp 𝕄) :
    iprop(bodyPre P K c f W ∗ (bodyPost P c -∗ Kt ⟨⟩))
      ⊢ wp frame (wpE (defs₀ (F := F)) 𝒱₀ (c : Thread nD τ) none) Set.univ
        (cc0_body (Memref.whole pkR) h0 (Memref.whole cnR) h1 eM h2 oM h3 cc0_scratch0 cc0_scratch1 cc0_scratch2) Kt := by
  rw [cc0_body_eq_skeleton]; unfold cc0_body_skel
  rw [k0_part1_eq_skeleton]; unfold k0_part1_skel
  simp only [semSignalWord, semWaitWord, smemLoad, smemLoadElt, Prog.bind_op, Prog.bind_ret, Prog.bind_lift, wp_deviceId, dev1_eq]
  unfold bodyPre opened toks
  iintro ⟨⟨⟨#HI, ⟨HatB, HatL, HatS, HatR⟩, ⟨#HrP, #HrL, #HrS, #HrR⟩, HtB, HtL, HtS, HtR⟩, HcB, HcR, #Hlev, Hout, HE, Hpk, Hcn, HO⟩, Hk⟩
  ihave HI' := (show invs P K c ⊢ invs P K c from .rfl) $$ HI
  unfold invs
  icases HI' with ⟨#HW, #HIb, #HIl, #HIs, #HIr, #HIbP, #HIrP⟩
  imod (out_open P c f) $$ [Hout] with ⟨HN, HF⟩
  · isplitr; · iexact HW
    iexact Hout
  ihave HN := (Entails.of_eq (bigSep_rest (own P c) _)) $$ HN
  icases HN with ⟨Hown, HN⟩
  ihave HF := (Entails.of_eq (bigSep_rest (own P (pr c)) _)) $$ HF
  icases HF with ⟨Hpeer, HF⟩
  iapply (Rounds.wp_signal 𝒱₀ ER (rd P) (c : Thread nD τ) none (dst := (pr c : Thread nD τ)) (sem := barS) (r := 0) (d := 0) (κ := K (barCell (pr c)))
      (by rw [duties_bar]; exact Finset.mem_singleton_self _) (amount_bar P (pr c) 0) () (tallyAt (rcvCell (pr c)) () (P.n c * N)) rfl)
    $$ [HO HtB Hpeer]
  · isplitr; · iexact HIbP
    isplitl [HO]; · iexact HO
    isplitl [HtB]; · iexact HtB
    isplitl [Hpeer]
    · rw [payload_bar]; unfold barPay; rw [pr_pr]
      isplitl [Hpeer]; · iexact Hpeer
      iexact HrR
    · iexact HrP
  iintro HO
  iapply (Rounds.wp_wait_rest_token 𝒱₀ ER (rd P) (c : Thread nD τ) none (κ := K (barCell c))
      (wpE_semWait_eq 𝒱₀ (c : Thread nD τ) none Set.univ) (Set.mem_univ _) () (O := tallyAt (rcvCell (pr c)) () (P.n c * N)) (W := W) (R := 0) (m := 0) (T := ∅)
      ((Nat.zero_add 1).trans (expect_bar P c).symm)) $$ [HcB HO HatB]
  · isplitr; · iexact HIb
    isplitl [HcB]; · iexact HcB
    isplitl [HO]; · iexact HO
    isplitr; · iapply (mayWait_bar c _); iexact Hlev
    iexact HatB
  iintro ⟨HO, HatB, -, Hpay⟩
  ihave Hp := (show bigSep ((rd P).duties (barCell c) 0 \ ∅) (fun t => (rd P).payload (barCell c) 0 t) ⊢ barPay P c from Entails.of_eq (by
    rw [Finset.sdiff_empty, duties_bar, bigSep_singleton, payload_bar])) $$ Hpay
  unfold barPay
  icases Hp with ⟨Hfar, #HrrP⟩
  ihave Hdeal := (table_deal P c).1 $$ HE
  icases Hdeal with ⟨HqL, HqR, Hspare⟩
  ihave HT := (tokAt_gather P c) $$ [HtL HtS HtR Hown Hfar HqL HqR]
  · isplitl [HtL HtS HtR]
    · isplitl [HtL]; · iexact HtL
      isplitl [HtS] <;> iassumption
    isplitl [Hown]; · iexact Hown
    isplitl [Hfar]; · iexact Hfar
    isplitl [HqL] <;> iassumption
  iapply (wp_load_word (b := Memref.whole cnR) c 0 (by decide) rfl _) $$ Hcn
  iintro %g %hg Hcn
  have hv := (hg (Shape.Idx.first (numel1_S1.symm ▸ Nat.one_pos))).trans (P.cn_own c)
  generalize g (Shape.Idx.first (numel1_S1.symm ▸ Nat.one_pos)) = v at hv ⊢
  iapply (wp_assume 𝒱₀ (c : Thread nD τ) none Set.univ (chk1_own hv (P.n_le c)))
  iapply (wp_load_word (b := Memref.whole cnR) c 1 (by decide) rfl _) $$ Hcn
  iintro %g' %hg' Hcn
  have hv' := (hg' (Shape.Idx.first (numel1_S1.symm ▸ Nat.one_pos))).trans (P.cn_peer c)
  generalize g' (Shape.Idx.first (numel1_S1.symm ▸ Nat.one_pos)) = v' at hv' ⊢
  iapply (wp_assume 𝒱₀ (c : Thread nD τ) none Set.univ (chk4_own hv' (P.n_le (pr c))))
  simp only [loop_none (k0_t2_loop v) (trips_rem v), loop_none (k0_t4_loop v') (trips_rem v'), loop_none (k0_t6_loop v) (trips_rem v),
    loop_none (k0_t8_loop v) (trips_rem v), bind_assoc, Prog.bind_ret, pure_bind]
  iapply (issue_loop P K c hv (chk1_own hv (P.n_le c)) _) $$ [HO Hpk HT]
  · unfold issueInv
    isplitr
    · isplitr; · unfold invs; iexact HI
      isplitr; · iexact HrL
      isplitr; · iexact HrS
      iexact HrrP
    isplitl [Hpk]; · iexact Hpk
    isplitl [HO]; · iexists _; rw [Nat.sub_zero]; iexact HO
    isplitr; · rw [Nat.zero_mul, cred_none]; iempintro
    isplitr; · rw [Nat.zero_mul, cred_none]; iempintro
    isplitl [HT]; · iexact HT
    rw [Finset.range_zero, bigSep_empty]; iempintro
  iintro H
  unfold issueInv
  icases H with ⟨-, Hpk, HO, HcL, HcS, -, Hrest⟩
  rw [Nat.sub_self, Nat.zero_mul, tallyAt_zero]
  iapply (drain P c rcvS (K (rcvCell c)) (P.n (pr c)) (by rw [duties_rcv, card_own]) rfl (k0_t3_loop v') _ (trips_own hv' (P.n_le (pr c)))) $$ [HO HcR HatR]
  · unfold drainPre
    isplitr; · iexact HIr
    isplitl [HO]; · iexact HO
    isplitl [HcR] <;> iassumption
  iintro H
  unfold drainPost
  icases H with ⟨HO, HatR, HpR⟩
  iapply (drain P c locS (K (locCell c)) (P.n c) (by rw [duties_loc, card_own]) rfl (k0_t5_loop v) _ (trips_own hv (P.n_le c))) $$ [HO HcL HatL]
  · unfold drainPre
    isplitr; · iexact HIl
    isplitl [HO]; · iexact HO
    isplitl [HcL] <;> iassumption
  iintro H
  unfold drainPost
  icases H with ⟨HO, HatL, HpL⟩
  iapply (drain P c sndS (K (sndCell c)) (P.n c) (by rw [duties_snd, card_own]) (credit_eRow 0) (k0_t7_loop v) _ (trips_own hv (P.n_le c))) $$ [HO HcS HatS]
  · unfold drainPre
    isplitr; · iexact HIs
    isplitl [HO]; · iexact HO
    isplitl [HcS] <;> iassumption
  iintro H
  unfold drainPost
  icases H with ⟨HO, HatS, HpS⟩
  -- the payloads, read at their cells
  ihave HpR := (show bigSep ((rd P).duties (rcvCell c) 0) (fun t => (rd P).payload (rcvCell c) 0 t) ⊢ bigSep (own P (pr c)) (fun t => iprop(∃ f, wPts P c qF t f (oSet t))) from
    Entails.of_eq (by rw [duties_rcv]; exact bigSep_congr fun t _ => payload_rcv P c t)) $$ HpR
  ihave HpL := (show bigSep ((rd P).duties (locCell c) 0) (fun t => (rd P).payload (locCell c) 0 t) ⊢ bigSep (own P c) (fun t => locPay P c t) from
    Entails.of_eq (by rw [duties_loc]; exact bigSep_congr fun t _ => payload_loc P c t)) $$ HpL
  ihave HpS := (show bigSep ((rd P).duties (sndCell c) 0) (fun t => (rd P).payload (sndCell c) 0 t) ⊢ bigSep (own P c) (fun t => sndPay P c t) from
    Entails.of_eq (by rw [duties_snd]; exact bigSep_congr fun t _ => payload_snd P c t)) $$ HpS
  ihave Hback := (landed_gather P c) $$ [HpL HpS Hrest]
  · isplitl [HpL]; · iexact HpL
    isplitl [HpS] <;> iassumption
  icases Hback with ⟨Hown, HqL, HqR⟩
  icases HatL with ⟨%RL, %hRL, HatL⟩
  icases HatS with ⟨%RS, %hRS, HatS⟩
  icases HatR with ⟨%RR, %hRR, HatR⟩
  rw [Prog.pure_eq_ret, wp_ret]
  imod (close P (K (barCell c)) (barCell c) (duties_later P _)) $$ [HatB] with HB
  · isplitr; · iexact HIb
    iexact HatB
  imod (close P (K (locCell c)) (locCell c) hRL) $$ [HatL] with HL
  · isplitr; · iexact HIl
    iexact HatL
  imod (close P (K (sndCell c)) (sndCell c) hRS) $$ [HatS] with HS
  · isplitr; · iexact HIs
    iexact HatS
  imod (close P (K (rcvCell c)) (rcvCell c) hRR) $$ [HatR] with HR
  · isplitr; · iexact HIr
    iexact HatR
  ihave HN := (mayWrite_gather P c qN (own P c)) $$ [Hown HN]
  · isplitl [Hown] <;> iassumption
  ihave HF := (mayWrite_gather P c qF (own P (pr c))) $$ [HpR HF]
  · isplitl [HpR] <;> iassumption
  imod (out_close P c f) $$ [HN HF] with Hout
  · isplitr; · iexact HW
    isplitl [HN] <;> iassumption
  imodintro
  iapply Hk
  unfold bodyPost
  isplitl [HB HL HS HR]
  · isplitl [HB]; · iexact HB
    isplitl [HL]; · iexact HL
    isplitl [HS] <;> iassumption
  isplitl [Hout]; · iexact Hout
  isplitl [HqL HqR Hspare]
  · iapply (table_deal P c).2
    isplitl [HqL]; · iexact HqL
    isplitl [HqR] <;> iassumption
  isplitl [Hpk]; · iexact Hpk
  isplitl [Hcn]; · iexact Hcn
  iexact HO

end Cert.KernelProof
-- ==== Proof.Region.lean ====
/-
  The kernel region of @main: its proof data, its body obligation (from `bodyRun`) and its segment record.
-/
module

public import proofs.«01_k».proof.Proof.Run
public import Idealize.ShloMosaic.Lib.Pipeline.RegionTalk
public import Idealize.ShloMosaic.Lib.Pipeline.FrameBody
public import Idealize.ShloMosaic.Lib.Pipeline.Value

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type}

local notation "𝕄" => MT nD τ sig Unit (Elt F) ℕ (UU F) ℕ

variable [FloatOps F] (V : Dev nD → Valuation τ sig (Elt F)) (P : Plan F)

/-- The plan is the one the values `V` the region is entered at set: the table half, the list and the counts. -/
structure Meets : Prop where
  e : ∀ c : Dev nD, V c main_arg1 = P.e c
  pk : ∀ c : Dev nD, V c main_v23 = P.pk c
  cn : ∀ c : Dev nD, V c main_v27 = P.cn c

/-- The valuation the region leaves: the result at `X`. -/
abbrev left (c : Dev nD) (X : (main_v28 : Ref sig .tc).ty.Contents (Elt F)) : Valuation τ sig (Elt F) := Function.update (V c) main_v28 X

/-! ## The semaphores -/

/-- The kernel's own semaphores: the local, send and receive ones. -/
abbrev osem : Fin 3 → SemLoc sig := fun | 0 => .dma locS | 1 => .dma sndS | 2 => .dma rcvS

theorem bigSep_three {M : Type} [URA M] (Φ : Fin 3 → sProp M) : bigSep Finset.univ Φ = iprop(Φ 0 ∗ Φ 1 ∗ Φ 2) :=
  bigSep_univ_eq_bigSepL [(0 : Fin 3), 1, 2] (by decide) (by decide) Φ

theorem ownSems_eq (c : Dev nD) : (Pipeline.ownSems0 osem c : sProp 𝕄)
    = iprop(semVal (locCell c) 0 ∗ semVal (sndCell c) 0 ∗ semVal (rcvCell c) 0) :=
  bigSep_three (fun k : Fin 3 => (semVal ((c : Thread nD τ), osem k) 0 : sProp 𝕄))

/-! ## The proof data -/

/-- What enters the region's invariant: the opened protocol with its credit and level facts, and the table. -/
def enter (c : Dev nD) : sProp 𝕄 :=
  iprop((∃ K, opened P K c) ∗ cred (tallyAt (barCell c) () 1) ∗ cred (tallyAt (rcvCell c) () (P.n (pr c) * N)) ∗ levAts L lv)

def dat0 (c : Dev nD) : Dat τ (Elt F) Unit ℕ (UU F) ℕ cfg0 c where
  A w := V c (Proc.devRef .tc (Pipeline.arrRef (cfg0).spec w))
  after w _ := match w with
    | ⟨0, _⟩ => P.pk c
    | ⟨1, _⟩ => P.cn c
    | ⟨2, _⟩ => P.go c
  Φ t := if t.val = 0 then iprop(enter P c ∗ eAll P c fullShare ∗ ∃ r, prngReg c r)
    else iprop(semVal (barCell c) 0 ∗ (semVal (locCell c) 0 ∗ semVal (sndCell c) 0 ∗ semVal (rcvCell c) 0) ∗ eAll P c fullShare ∗ ∃ r, prngReg c r)
  q _ := fullShare
  owed t := if t.val = 0 then O₀ P c else 0

def pdats : (p : Fin 1) → (c : Dev nD) → Dat τ (Elt F) Unit ℕ (UU F) ℕ (cfgs p) c := fun _ c => dat0 V P c

theorem owed_zero (c : Dev nD) : (dat0 V P c).owed 0 = O₀ P c := by
  show (if (0 : Fin (cfg0.N + 1)).val = 0 then O₀ P c else 0) = O₀ P c; exact if_pos rfl
theorem owed_first (c : Dev nD) : (dat0 V P c).owed t0_0.castSucc = O₀ P c := by
  show (if (t0_0.castSucc : Fin (cfg0.N + 1)).val = 0 then O₀ P c else 0) = O₀ P c; exact if_pos rfl
theorem owed_last (c : Dev nD) : (dat0 V P c).owed (Fin.last _) = 0 := by
  show (if (Fin.last cfg0.N).val = 0 then O₀ P c else 0) = 0
  rw [Fin.val_last, if_neg (by rw [show cfg0.N = 1 from N_0]; decide)]

theorem owesAt_in (c : Dev nD) (t : Fin (cfg0.N + 1)) (O : CellTallies nD τ sig Unit) (h : (dat0 V P c).owed t = O) :
    iprop(∃ W, owes (c : Thread nD τ) O W) ⊢ ((dat0 V P c).owesAt () t : sProp 𝕄) := by
  unfold Dat.owesAt Pipeline.owesWithin Dat.bound; rw [h]
  iintro ⟨%W, HO⟩; iexists W; isplitr
  · ipureintro; exact fun _ _ => Or.inl trivial
  iexact HO
theorem owesAt_out (c : Dev nD) (t : Fin (cfg0.N + 1)) (O : CellTallies nD τ sig Unit) (h : (dat0 V P c).owed t = O) :
    ((dat0 V P c).owesAt () t : sProp 𝕄) ⊢ iprop(∃ W, owes (c : Thread nD τ) O W) := by
  unfold Dat.owesAt Pipeline.owesWithin; rw [h]
  iintro ⟨%W, -, HO⟩; iexists W; iexact HO

/-- Each window's block at the one point is its whole array: an element sits where it is. -/
theorem blk_emb0 (y : S1024.Idx) : (win0_0.blk t0_0).view.emb y = y := by
  funext a; apply Fin.ext
  exact win0_0.rect_emb_val_of_index_zero t0_0 a rfl y
theorem blk_emb1 (y : S2.Idx) : (win0_1.blk t0_0).view.emb y = y := by
  funext a; apply Fin.ext
  exact win0_1.rect_emb_val_of_index_zero t0_0 a rfl y
theorem blk_emb2 (y : S1024x1024.Idx) : (win0_2.blk t0_0).view.emb y = y := by
  funext a; apply Fin.ext
  exact win0_2.rect_emb_val_of_index_zero t0_0 a rfl y

theorem read0 (f : (main_v23 : Ref sig .tc).ty.Contents (Elt F)) : (win0_0.blk t0_0).view.read (Elt F) f = f := by
  funext y; exact congrArg f (blk_emb0 y)
theorem read1 (f : (main_v27 : Ref sig .tc).ty.Contents (Elt F)) : (win0_1.blk t0_0).view.read (Elt F) f = f := by
  funext y; exact congrArg f (blk_emb1 y)
theorem read2 (f : (main_v28 : Ref sig .tc).ty.Contents (Elt F)) : (win0_2.blk t0_0).view.read (Elt F) f = f := by
  funext y; exact congrArg f (blk_emb2 y)

theorem block_pk (c : Dev nD) (hm : Meets V P) (d) : (dat0 V P c).before 0 t0_0 d = P.pk c := by
  rw [(dat0 V P c).before_fetched 0 t0_0 (fetch0_0 t0_0) d]
  exact (read0 (F := F) (V c main_v23)).trans (hm.pk c)
theorem block_cn (c : Dev nD) (hm : Meets V P) (d) : (dat0 V P c).before 1 t0_0 d = P.cn c := by
  rw [(dat0 V P c).before_fetched 1 t0_0 (fetch0_1 t0_0) d]
  exact (read1 (F := F) (V c main_v27)).trans (hm.cn c)

/-- The two inputs' arrays are never written; the output's ends at the plan's output. -/
theorem arr_pk (c : Dev nD) : (dat0 V P c).arrAt 0 cfg0.N = V c main_v23 := (dat0 V P c).arrAt_in (0 : Fin 3) rfl _
theorem arr_cn (c : Dev nD) : (dat0 V P c).arrAt 1 cfg0.N = V c main_v27 := (dat0 V P c).arrAt_in (1 : Fin 3) rfl _
theorem arr_out (c : Dev nD) : (dat0 V P c).arrAt 2 cfg0.N = P.go c := by
  funext i
  refine (dat0 V P c).arrAt_apply_of_mem 2 (P.go c) (fun t _ => ?_) cfg0.N t0_0 i t0_0.isLt (flush0_2 _) ?_
  · obtain rfl := fin_N0 t
    exact (read2 (F := F) (P.go c)).symm
  · exact Finset.mem_map.mpr ⟨i, Finset.mem_univ _, blk_emb2 i⟩

/-! ## The body obligation -/

open Classical in
/-- The windows whose contents are not followed: the output's, unless the plan is sure. -/
def unread : (p : Fin 1) → Fin (Pipeline.pin (pcfgs (F := F)) adm p).W → Bool := fun _ w => decide (w.val = 2 ∧ ¬ P.sure)

theorem unread_pk : unread P 0 (0 : Fin 3) = false := by classical exact decide_eq_false fun h => absurd h.1 (show ¬ (0 : Fin 3).val = 2 by decide)
theorem unread_cn : unread P 0 (1 : Fin 3) = false := by classical exact decide_eq_false fun h => absurd h.1 (show ¬ (1 : Fin 3).val = 2 by decide)
theorem unread_sure (h : P.sure) : unread P 0 (2 : Fin 3) = false := by classical exact decide_eq_false fun g => g.2 h
theorem unread_unsure (h : ¬ P.sure) : unread P 0 (2 : Fin 3) = true := by classical exact decide_eq_true ⟨rfl, h⟩

/-- The body's run between the region's two points, the output window at some contents before it and after it. -/
theorem body_core (hm : Meets V P) (c : Dev nD) {h0 h1 h2 h3} (Kt : PUnit → sProp 𝕄) :
    iprop(((enter P c ∗ eAll P c fullShare ∗ ∃ r, prngReg c r) ∗ (dat0 V P c).owesAt () t0_0.castSucc
        ∗ (∃ d, owns (c : Thread nD τ) (Memref.whole pkR) fullShare ((dat0 V P c).before 0 t0_0 d))
        ∗ (∃ d, owns (c : Thread nD τ) (Memref.whole cnR) fullShare ((dat0 V P c).before 1 t0_0 d))
        ∗ (∃ X, owns (c : Thread nD τ) (Memref.whole outR) fullShare X))
      ∗ (iprop((semVal (barCell c) 0 ∗ (semVal (locCell c) 0 ∗ semVal (sndCell c) 0 ∗ semVal (rcvCell c) 0) ∗ eAll P c fullShare ∗ ∃ r, prngReg c r)
          ∗ (dat0 V P c).owesAt () t0_0.succ
          ∗ owns (c : Thread nD τ) (Memref.whole pkR) fullShare (P.pk c)
          ∗ owns (c : Thread nD τ) (Memref.whole cnR) fullShare (P.cn c)
          ∗ (∃ X, ⌜P.sure → X = P.go c⌝ ∗ owns (c : Thread nD τ) (Memref.whole outR) fullShare X)) -∗ Kt ⟨⟩))
    ⊢ wp frame (wpE (defs₀ (F := F)) 𝒱₀ (c : Thread nD τ) none) Set.univ
        (cc0_body (Memref.whole pkR) h0 (Memref.whole cnR) h1 eM h2 oM h3 cc0_scratch0 cc0_scratch1 cc0_scratch2) Kt := by
  simp only [owns_whole, block_pk V P c hm, block_cn V P c hm]
  unfold enter
  iintro ⟨⟨⟨⟨⟨%K, Hop⟩, HcB, HcV, Hlev⟩, He, Hreg⟩, HO, ⟨%d0, Hpk⟩, ⟨%d1, Hcn⟩, ⟨%X, Hout⟩⟩, Hk⟩
  ihave HO' := (owesAt_out V P c _ (O₀ P c) (owed_first V P c)) $$ HO
  icases HO' with ⟨%W, HO⟩
  iapply (bodyRun P K c X W)
  isplitl [Hop HcB HcV Hlev He HO Hpk Hcn Hout]
  · unfold bodyPre
    isplitl [Hop]; · iexact Hop
    isplitl [HcB]; · iexact HcB
    isplitl [HcV]; · iexact HcV
    isplitl [Hlev]; · iexact Hlev
    isplitl [Hout]; · iexact Hout
    isplitl [He]; · iexact He
    isplitl [Hpk]; · iexact Hpk
    isplitl [Hcn]; · iexact Hcn
    iexact HO
  unfold bodyPost
  iintro ⟨⟨Hb0, Hl0, Hs0, Hr0⟩, Hout, He, Hpk, Hcn, HO⟩
  iapply Hk
  isplitl [Hb0 Hl0 Hs0 Hr0 He Hreg]
  · isplitl [Hb0]; · iexact Hb0
    isplitl [Hl0 Hs0 Hr0]
    · isplitl [Hl0]; · iexact Hl0
      isplitl [Hs0] <;> iassumption
    isplitl [He]; · iexact He
    iexact Hreg
  isplitl [HO]
  · iapply (owesAt_in V P c t0_0.succ 0 (owed_last V P c)); iexact HO
  isplitl [Hpk]; · iexact Hpk
  isplitl [Hcn]; · iexact Hcn
  iexact Hout

theorem body0 (hm : Meets V P) (c : Dev nD) : BodyObligation (dat0 V P c) (defs₀ (F := F)) 𝒱₀ () Set.univ (unread P 0) := fun t => by
  obtain rfl := fin_N0 t
  rw [Gen.bigSep_W0, Gen.bigSep_W0,
    show (dat0 V P c).Φ t0_0.castSucc = iprop(enter P c ∗ eAll P c fullShare ∗ ∃ r, prngReg c r) from rfl,
    show (dat0 V P c).Φ t0_0.succ = iprop(semVal (barCell c) 0 ∗ (semVal (locCell c) 0 ∗ semVal (sndCell c) 0 ∗ semVal (rcvCell c) 0)
      ∗ eAll P c fullShare ∗ ∃ r, prngReg c r) from rfl]
  by_cases hs : P.sure
  · simp only [unread_pk, unread_cn, unread_sure P hs]
    refine .trans ?_ (body_core V P hm c _)
    iintro ⟨HΦ, HO, Hpk, Hcn, ⟨%d, Hout⟩⟩
    isplitr []
    · isplitl [HΦ]; · iexact HΦ
      isplitl [HO]; · iexact HO
      isplitl [Hpk]; · iexact Hpk
      isplitl [Hcn]; · iexact Hcn
      iexists _; iexact Hout
    iintro ⟨HΦ, HO, Hpk, Hcn, ⟨%X, %hX, Hout⟩⟩
    isplitl [HΦ]; · iexact HΦ
    isplitl [HO]; · iexact HO
    isplitl [Hpk]; · iexact Hpk
    isplitl [Hcn]; · iexact Hcn
    rw [hX hs]
    iexact Hout
  · simp only [unread_pk, unread_cn, unread_unsure P hs]
    refine .trans ?_ (body_core V P hm c _)
    iintro ⟨HΦ, HO, Hpk, Hcn, ⟨%d, Hout⟩⟩
    isplitr []
    · isplitl [HΦ]; · iexact HΦ
      isplitl [HO]; · iexact HO
      isplitl [Hpk]; · iexact Hpk
      isplitl [Hcn]; · iexact Hcn
      iexists d; iexact Hout
    iintro ⟨HΦ, HO, Hpk, Hcn, ⟨%X, -, Hout⟩⟩
    isplitl [HΦ]; · iexact HΦ
    isplitl [HO]; · iexact HO
    isplitl [Hpk]; · iexact Hpk
    isplitl [Hcn]; · iexact Hcn
    iexists X; iexact Hout

/-! ## The segment record -/

/-- The buffer the body addresses itself, and all that @main holds beside the region's arrays. -/
abbrev bufE : Finset (DevRef τ sig) := {Proc.devRef .tc main_arg1}
abbrev bufs : Finset (DevRef τ sig) := Pipeline.ucRefs τ sig \ Pipeline.arrRefs (τ := τ) spec0

/-- What the launch keeps for the region, and what the region leaves beside the buffers. -/
def kept (c : Dev nD) : sProp 𝕄 :=
  iprop((∃ K, ghost P K c) ∗ cred (tallyAt (barCell c) () 1) ∗ cred (tallyAt (rcvCell c) () (P.n (pr c) * N)))
def after0 (c : Dev nD) : sProp 𝕄 := semVal (barCell c) 0

theorem open0 (c : Dev nD) : iprop(kept P c ∗ Pipeline.ownSems0 osem c ∗ levAts L lv) ⊢ (|={Set.univ}=> enter P c : sProp 𝕄) := by
  rw [ownSems_eq]
  unfold kept enter
  iintro ⟨⟨⟨%K, Hg⟩, HcB, HcV⟩, ⟨Hl0, Hs0, Hr0⟩, #Hlev⟩
  unfold ghost
  icases Hg with ⟨#HI, HatB, HoL, HoS, HoR, #HrP, Ht⟩
  unfold invs
  icases HI with ⟨#HW, #HIbar, #HIloc, #HIsnd, #HIrcv, #HIbarP, #HIrcvP⟩
  imod (Rounds.cell_open ER (rd P) (g := locCell c) (Set.mem_univ (K (locCell c)))) $$ [HoL Hl0] with ⟨HatL, #HrL⟩
  · isplitr; · iexact HIloc
    isplitl [HoL] <;> iassumption
  imod (Rounds.cell_open ER (rd P) (g := sndCell c) (Set.mem_univ (K (sndCell c)))) $$ [HoS Hs0] with ⟨HatS, #HrS⟩
  · isplitr; · iexact HIsnd
    isplitl [HoS] <;> iassumption
  imod (Rounds.cell_open ER (rd P) (g := rcvCell c) (Set.mem_univ (K (rcvCell c)))) $$ [HoR Hr0] with ⟨HatR, #HrR⟩
  · isplitr; · iexact HIrcv
    isplitl [HoR] <;> iassumption
  imodintro
  isplitl [HatB HatL HatS HatR Ht]
  · iexists K; unfold opened invs
    isplitr
    · isplitr; · iexact HW
      isplitr; · iexact HIbar
      isplitr; · iexact HIloc
      isplitr; · iexact HIsnd
      isplitr; · iexact HIrcv
      isplitr; · iexact HIbarP
      iexact HIrcvP
    isplitl [HatB HatL HatS HatR]
    · isplitl [HatB]; · iexact HatB
      isplitl [HatL]; · iexact HatL
      isplitl [HatS] <;> iassumption
    isplitr
    · isplitr; · iexact HrP
      isplitr; · iexact HrL
      isplitr; · iexact HrS
      iexact HrR
    iexact Ht
  isplitl [HcB]; · iexact HcB
  isplitl [HcV]; · iexact HcV
  iexact Hlev

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What a device owes lies at its partner's receive cell or its partner's barrier cell, each above level zero. -/
theorem owed_levels (c : Dev nD) (t : Fin (cfg0.N + 1)) (g : GSem nD τ sig) (u : Unit) (h : 0 < (dat0 V P c).owed t g u) :
    u ∈ L g ∧ (0 : ℕ) < lv g u := by
  have e : (dat0 V P c).owed t = if t.val = 0 then O₀ P c else 0 := rfl
  rw [e] at h
  split at h
  · unfold O₀ at h
    rw [Pi.add_apply, Finsupp.add_apply, tallyAt_apply, tallyAt_apply] at h
    by_cases hr : g = rcvCell (pr c) ∧ u = ()
    · rw [hr.1]; exact ⟨by rw [L_tc]; exact Finset.mem_singleton_self _, by dsimp only [lv]; rw [if_neg rcv_ne_bar, if_pos rfl]; decide⟩
    · rw [if_neg hr] at h
      by_cases hb : g = barCell (pr c) ∧ u = ()
      · rw [hb.1]; exact ⟨by rw [L_tc]; exact Finset.mem_singleton_self _, by dsimp only [lv]; rw [if_pos rfl]; decide⟩
      · rw [if_neg hb] at h; exact absurd h (Nat.lt_irrefl 0)
  · exact absurd h (Nat.lt_irrefl 0)

theorem heldE (c : Dev nD) (W : Valuation τ sig (Elt F)) :
    (StableHlo.held (c : Thread nD τ) bufE W : sProp 𝕄) = ((c : Thread nD τ).loc main_arg1 ↦{fullShare} W main_arg1) := by
  unfold StableHlo.held; rw [BI.bigSep_singleton]

theorem in0 (hm : Meets V P) (c : Dev nD) : iprop(Pipeline.scopedRest (Pipeline.pin (pcfgs (F := F)) adm 0).spec c ∗ (∃ r, prngReg c r)
      ∗ StableHlo.held (c.tc : Thread nD τ) bufE (V c) ∗ enter P c) ⊢ (pdats V P 0 c).Φ 0 := by
  rw [show (pdats V P 0 c).Φ 0 = iprop(enter P c ∗ eAll P c fullShare ∗ ∃ r, prngReg c r) from rfl, heldE, hm.e c]
  iintro ⟨-, Hp, He, HX⟩
  isplitl [HX]; · iexact HX
  isplitl [He]; · iexact He
  iexact Hp

theorem out0 (hm : Meets V P) (c : Dev nD) : (pdats V P 0 c).Φ (Fin.last (Pipeline.pin (pcfgs (F := F)) adm 0).N)
    ⊢ iprop(Pipeline.scopedRest (Pipeline.pin (pcfgs (F := F)) adm 0).spec c ∗ (∃ r, prngReg c r)
      ∗ (∃ W' : Valuation τ sig (Elt F), ⌜W' = V c⌝ ∗ StableHlo.held (c.tc : Thread nD τ) bufE W') ∗ Pipeline.ownSems0 osem c ∗ after0 c) := by
  rw [show (pdats V P 0 c).Φ (Fin.last _) = iprop(semVal (barCell c) 0 ∗ (semVal (locCell c) 0 ∗ semVal (sndCell c) 0 ∗ semVal (rcvCell c) 0)
      ∗ eAll P c fullShare ∗ ∃ r, prngReg c r) from rfl,
    show (Pipeline.scopedRest (Pipeline.pin (pcfgs (F := F)) adm 0).spec c : sProp 𝕄) = (BI.emp : sProp 𝕄) from scopedRest0_eq c, ownSems_eq]
  unfold after0
  iintro ⟨Hb, Hs, He, Hp⟩
  isplitr; · iempintro
  isplitl [Hp]; · iexact Hp
  isplitl [He]
  · iexists V c
    isplitr; · ipureintro; rfl
    rw [heldE, hm.e c]; iexact He
  isplitl [Hs]; · iexact Hs
  iexact Hb

theorem staging_levels (w : Fin (Pipeline.pin (pcfgs (F := F)) adm 0).W) (s : Fin ((Pipeline.pin (pcfgs (F := F)) adm 0).win w).nbuf) (c : Dev nD) :
    () ∈ L ((c : Thread nD τ), .dma (((Pipeline.pin (pcfgs (F := F)) adm 0).win w).sem s))
      ∧ lv ((c : Thread nD τ), .dma (((Pipeline.pin (pcfgs (F := F)) adm 0).win w).sem s)) () ≤ 0 := by
  refine ⟨by rw [L_tc]; exact Finset.mem_singleton_self _, ?_⟩
  fin_cases w <;> fin_cases s <;> exact Nat.le_of_eq rfl

theorem share_full (c : Dev nD) (w : Fin cfg0.W) : (dat0 V P c).share w = fullShare := by unfold Dat.share; split <;> rfl

theorem out_in_arrays : Proc.devRef .tc main_v28 ∈ Pipeline.arrRefs (τ := τ) spec0 :=
  Finset.mem_map.mpr ⟨main_v28, Finset.mem_image.mpr ⟨(2 : Fin 3), Finset.mem_univ _, rfl⟩, rfl⟩

variable [∀ e, Nonempty (Elt F e)]

/-- The proof data of the region as it is run, the unread windows at any contents. -/
abbrev rdats := Pipeline.toRsF (pcfgs (F := F)) adm (pdats V P) (unread P)

set_option backward.isDefEq.respectTransparency.types false in
/-- The region's record: entered at `V` owing the plan's dues, left owing nothing. -/
def reg0 (hm : Meets V P) : Pipeline.RDat.RegionSeg (pcfgs (F := F)) adm (rdats V P) () defs₀ 𝒱₀ L lv 0 :=
  Pipeline.RDat.RegionSeg.ofTalkF (pcfgs (F := F)) adm (pdats V P) () defs₀ 𝒱₀ L lv 0 (unread P) osem (by decide : Pipeline.OwnSemFacts spec0 osem)
    bufE (bufs) (Finset.singleton_subset_iff.mpr (by decide)) kit0 rfl (fun c => (body0 V P hm c).loose)
    (fun _ => 0) (O₀ P) (fun c => (owed_zero V P c).trans (zero_add _).symm) (owed_last V P) (fun _ => rfl) (share_full V P)
    V (fun c W' => W' = V c)
    (kept P) after0 (enter P) after0 (open0 P) (in0 V P hm) (out0 V P hm)
    (fun c => by iintro H; imodintro; iexact H)
    (fun _ => 0) ⟨fun c w s => (staging_levels w s c).1, fun c w s => (staging_levels w s c).2, fun c t g i h => owed_levels V P c t g i h⟩
    (fun _ => BIBase.emp) (fun _ _ => rfl)

/-- All the unscoped buffers are the region's arrays and the rest. -/
theorem held_split (c : Dev nD) (W : Valuation τ sig (Elt F)) : (StableHlo.held (c : Thread nD τ) (Pipeline.ucRefs τ sig) W : sProp 𝕄)
    = iprop(StableHlo.held (c : Thread nD τ) (Pipeline.arrRefs (τ := τ) spec0) W ∗ StableHlo.held (c : Thread nD τ) (bufs) W) :=
  StableHlo.held_sub_split (c : Thread nD τ) (by decide) W

/-- What rides along until the region, and what is left after it. -/
def rest (i : Fin 2) (c : Dev nD) : sProp 𝕄 :=
  if i = 0 then iprop(kept P c ∗ (∃ r, prngReg c r) ∗ ∃ W, owes (c : Thread nD τ) (O₀ P c) W)
  else iprop(after0 c ∗ ∃ W, owes (c : Thread nD τ) (0 : CellTallies nD τ sig Unit) W)

theorem reg0_pre (hm : Meets V P) (c : Dev nD) :
    iprop(StableHlo.held (c : Thread nD τ) (Pipeline.ucRefs τ sig) (V c) ∗ rest P 0 c) ⊢ (reg0 V P hm).pre c := by
  show _ ⊢ iprop(StableHlo.held (c.tc : Thread nD τ) (Pipeline.arrRefs (τ := τ) spec0) (V c) ∗ (∃ r, prngReg c r)
    ∗ (StableHlo.held (c.tc : Thread nD τ) (bufs) (V c) ∗ BIBase.emp) ∗ kept P c ∗ ∃ Wd, owes (c : Thread nD τ) (0 + O₀ P c) Wd)
  rw [zero_add, held_split]
  unfold rest; rw [if_pos rfl]
  iintro ⟨⟨Ha, Hb⟩, HK, Hp, HO⟩
  isplitl [Ha]; · iexact Ha
  isplitl [Hp]; · iexact Hp
  isplitl [Hb]
  · isplitl [Hb]; · iexact Hb
    iempintro
  isplitl [HK] <;> iassumption

/-- What the region leaves in its three arrays is the valuation with the result at the third's. -/
theorem arrays_left (c : Dev nD) (G : (w : Fin cfg0.W) → Buf (Elt F) ((cfg0.win w).arr.view.loc (c.tc : Thread nD τ)))
    (hG : ∀ w, unread P 0 w = false → G w = (dat0 V P c).arrAt w cfg0.N) (w : Fin cfg0.W) :
    G w = left V c (G (2 : Fin 3)) (Proc.devRef .tc (Pipeline.arrRef spec0 w)) := by
  fin_cases w
  · exact (hG (0 : Fin 3) (unread_pk P)).trans ((arr_pk V P c).trans (Function.update_of_ne (by decide) _ _).symm)
  · exact (hG (1 : Fin 3) (unread_cn P)).trans ((arr_cn V P c).trans (Function.update_of_ne (by decide) _ _).symm)
  · exact (Function.update_self (Proc.devRef .tc main_v28) (G (2 : Fin 3)) (V c)).symm

theorem reg0_post (hm : Meets V P) (c : Dev nD) :
    (reg0 V P hm).post c ⊢ iprop((∃ X, ⌜P.sure → X = P.go c⌝ ∗ StableHlo.held (c : Thread nD τ) (Pipeline.ucRefs τ sig) (left V c X)) ∗ rest P 1 c) := by
  show iprop((∃ G : (w : Fin cfg0.W) → Buf (Elt F) ((cfg0.win w).arr.view.loc (c.tc : Thread nD τ)),
      ⌜∀ w, unread P 0 w = false → G w = (dat0 V P c).arrAt w cfg0.N⌝ ∗ (pdats V P 0 c).arrays G) ∗ (∃ r, prngReg c r)
    ∗ ((∃ W' : Valuation τ sig (Elt F), ⌜W' = V c⌝ ∗ StableHlo.held (c.tc : Thread nD τ) bufE W') ∗ StableHlo.held (c.tc : Thread nD τ) (bufs \ bufE) (V c) ∗ BIBase.emp)
    ∗ after0 c ∗ ∃ Wd, owes (c : Thread nD τ) (0 : CellTallies nD τ sig Unit) Wd) ⊢ _
  unfold rest; rw [if_neg (by decide)]
  iintro ⟨⟨%G, %hG, Ha⟩, -, ⟨⟨%W', %hW, He⟩, Hb, -⟩, Hy, HO⟩
  isplitr [Hy HO]
  · iexists (G (2 : Fin 3))
    isplitr; · ipureintro; exact fun hs => (hG (2 : Fin 3) (unread_sure P hs)).trans (arr_out V P c)
    rw [held_split, ← Pipeline.arrays_held (pcfgs (F := F)) adm (pdats V P) 0 kit0 c (share_full V P c) G (left V c (G (2 : Fin 3))) (arrays_left V P c G hG),
      StableHlo.held_congr (c : Thread nD τ) (S := bufs) (V := left V c (G (2 : Fin 3))) (V' := V c) fun b hb =>
        Function.update_of_ne (fun h => (Finset.mem_sdiff.mp hb).2 (by rw [h]; exact out_in_arrays)) _ _,
      StableHlo.held_sub_split (c : Thread nD τ) (S := bufs) (T := bufE) (Finset.singleton_subset_iff.mpr (by decide)) (V c), hW]
    isplitl [Ha]; · iexact Ha
    isplitl [He] <;> iassumption
  isplitl [Hy] <;> iassumption

end Cert.KernelProof
-- ==== Proof.Launch.lean ====
/-
  The launch and the run: every device's four cells and duty tokens are funded at once and dealt out, then @main's host stretches and its
  region run on each device, to the plan's output where the plan is sure.
-/
module

public import proofs.«01_k».proof.Proof.Region
public import Idealize.ShloMosaic.Lib.Quiescent

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ (UU F) ℕ

variable [FloatOps F] (P : Plan F)

/-! ## The cells and the tokens -/

theorem osem_inj : Function.Injective osem := by decide
theorem osem_ne_bar : ∀ k : Fin 3, osem k ≠ .reg barS := by decide

/-- The barrier cells, live from the start, and the scoped cells, dormant until the region. -/
def barAt : Dev nD ↪ GSem nD τ sig := ⟨fun c => barCell c, fun _ _ h => congrArg (fun g : GSem nD τ sig => g.1.1) h⟩
def ownAt : Dev nD × Fin 3 ↪ GSem nD τ sig :=
  ⟨fun x => ((x.1 : Thread nD τ), osem x.2), fun _ _ h => Prod.ext (congrArg (fun g : GSem nD τ sig => g.1.1) h) (osem_inj (congrArg Prod.snd h))⟩
abbrev barCells : Finset (GSem nD τ sig) := Finset.univ.map barAt
abbrev ownCells : Finset (GSem nD τ sig) := Finset.univ.map ownAt

theorem cells_apart : Disjoint barCells ownCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

theorem bar_mem (c : Dev nD) : barCell c ∈ (barCells ∪ ownCells : Finset (GSem nD τ sig)) :=
  Finset.mem_union_left _ (Finset.mem_map_of_mem barAt (Finset.mem_univ c))
theorem own_mem (c : Dev nD) (k : Fin 3) : ((c : Thread nD τ), osem k) ∈ (barCells ∪ ownCells : Finset (GSem nD τ sig)) :=
  Finset.mem_union_right _ (Finset.mem_map_of_mem ownAt (Finset.mem_univ (c, k)))

abbrev semOf : Fin 4 → SemLoc sig := fun | 0 => .reg barS | 1 => .dma locS | 2 => .dma sndS | 3 => .dma rcvS
theorem semOf_inj : Function.Injective semOf := by decide

/-- A duty's place: the device and kind of its cell, and the token. -/
def dutyAt : ((_ : Dev nD × Fin 4) × Tok) ↪ GSem nD τ sig × ℕ × Tok :=
  ⟨fun x => (((x.1.1 : Thread nD τ), semOf x.1.2), 0, x.2), by
    rintro ⟨⟨c, k⟩, t⟩ ⟨⟨d, l⟩, u⟩ h
    have hc : c = d := congrArg (fun y : GSem nD τ sig × ℕ × Tok => y.1.1.1) h
    have hk : k = l := semOf_inj (congrArg (fun y : GSem nD τ sig × ℕ × Tok => y.1.2) h)
    have ht : t = u := congrArg (fun y : GSem nD τ sig × ℕ × Tok => y.2.2) h
    subst hc hk ht; rfl⟩

/-- Every duty of the schedule. -/
def allDuties : Finset (GSem nD τ sig × ℕ × Tok) :=
  ((Finset.univ : Finset (Dev nD × Fin 4)).sigma fun x => dutiesOf P x.1 (semOf x.2)).map dutyAt

/-- The tokens at device `c`'s own cells. -/
def toksAt (c : Dev nD) : sProp 𝕄 :=
  iprop(dutyTok ER (barCell c) 0 0 ∗ bigSep (own P c) (fun t => dutyTok ER (locCell c) 0 t)
    ∗ bigSep (own P c) (fun t => dutyTok ER (sndCell c) 0 t) ∗ bigSep (own P (pr c)) (fun t => dutyTok ER (rcvCell c) 0 t))

theorem bigSep_four {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ

theorem allDuties_eq : bigSep (allDuties P) (fun x => (dutyTok ER x.1 x.2.1 x.2.2 : sProp 𝕄)) = bigSep Finset.univ fun c : Dev nD => toksAt P c := by
  unfold allDuties
  rw [bigSep_map, Pipeline.bigSep_sigma, bigSep_univ_prod]
  refine bigSep_congr fun c _ => ?_
  rw [bigSep_four]
  unfold toksAt
  rw [← duties_zero P c, ← duties_zero P c, ← duties_zero P c, ← duties_zero P c,
    show (rd P).duties ((c : Thread nD τ), semOf 0) 0 = {0} from duties_bar P c,
    show (rd P).duties ((c : Thread nD τ), semOf 1) 0 = own P c from duties_loc P c,
    show (rd P).duties ((c : Thread nD τ), semOf 2) 0 = own P c from duties_snd P c,
    show (rd P).duties ((c : Thread nD τ), semOf 3) 0 = own P (pr c) from duties_rcv P c, BI.bigSep_singleton]
  rfl

/-- The barrier and receive tokens go to the partner, who pays them. -/
theorem toks_across : (bigSep Finset.univ fun c : Dev nD => (toksAt P c : sProp 𝕄)) = bigSep Finset.univ fun c : Dev nD => toks P c := by
  unfold toksAt toks
  simp only [bigSep_sep']
  rw [bigSep_univ_equiv swap (fun c : Dev nD => (dutyTok ER (barCell c) 0 0 : sProp 𝕄)),
    bigSep_univ_equiv swap (fun c : Dev nD => (bigSep (own P (pr c)) (fun t => dutyTok ER (rcvCell c) 0 t) : sProp 𝕄))]
  have e (c : Dev nD) : pr (swap c) = c := pr_pr c
  simp only [e]
  rfl

/-! ## The launch element -/

variable (m : (ℓ : Loc nD τ sig) → Buf (Elt F) ℓ) (ρ : Dev nD → PrngReg)

def u₀ : UU F := (initOf (Pipeline.cells cfgs cellOf_inj) (Pipeline.launchToks cfgs cellOf_inj), (launchOf barCells ownCells (allDuties P), wm₀ nD τ sig (Elt F)))

/-- All of a resource parked on device 0. -/
def parked (X : sProp 𝕄) (c : Dev nD) : sProp 𝕄 := if c = 0 then X else iprop(emp)
theorem parked_all (X : sProp 𝕄) : bigSep Finset.univ (parked X) = X := by
  rw [bigSep_univ_at _ (0 : Dev nD), bigSep_congr (s := Finset.univ.erase (0 : Dev nD)) (Ψ := fun _ => (BI.emp : sProp 𝕄))
    fun c hc => by unfold parked; rw [if_neg (Finset.ne_of_mem_erase hc)]; rfl, BI.bigSep_emp_const]
  unfold parked; rw [if_pos rfl]
  exact BI.equiv_iff.mp sep_emp

/-- What the protocol is made of at launch: its cells' and tokens' element, and the write mode's. -/
def made : sProp 𝕄 :=
  iprop(BI.own (ER (launchOf barCells ownCells (allDuties P))) ∗ ownU ((EW : UEmb (WmRA nD τ sig (Elt F)) (UU F)) (wm₀ nD τ sig (Elt F))))

def seed : Dev nD → sProp 𝕄 := parked (made P)

theorem u₀_split : (ownU (u₀ P) : sProp 𝕄)
    ⊢ iprop(BI.own (EP (initOf (Pipeline.cells cfgs cellOf_inj) (Pipeline.launchToks cfgs cellOf_inj))) ∗ made P) := by
  unfold u₀ made
  refine (ownU_pair _ _).trans (sep_mono_right ?_)
  exact own_pair_emb (embR : Emb (URounds (GSem nD τ sig) Tok × WmRA nD τ sig (Elt F)) (MT nD τ sig Unit (Elt F) ℕ (UU F) ℕ)) _ _

/-- What every device may consult: the write mode's invariant, all cells' invariants under one map of names, and round 0 of every barrier cell
    reached. -/
def shared (κ : GSem nD τ sig → ℕ) : sProp 𝕄 :=
  iprop(wmAny ∗ (bigSep (barCells ∪ ownCells) fun g => cellInv ER (rd P) (κ g) g) ∗ bigSep barCells fun g => reached ER g 0)
instance shared_persistent (κ : GSem nD τ sig → ℕ) : BI.Persistent (shared P κ) := by unfold shared; infer_instance

theorem inv_at (κ : GSem nD τ sig → ℕ) {g : GSem nD τ sig} (hg : g ∈ (barCells ∪ ownCells : Finset (GSem nD τ sig))) :
    (bigSep (barCells ∪ ownCells) fun g => (cellInv ER (rd P) (κ g) g : sProp 𝕄)) ⊢ cellInv ER (rd P) (κ g) g := bigSep_elim hg
omit [FloatOps F] in
theorem reached_at (c : Dev nD) : (bigSep barCells fun g => (reached ER g 0 : sProp 𝕄)) ⊢ reached ER (barCell c) 0 :=
  bigSep_elim (Finset.mem_map_of_mem barAt (Finset.mem_univ c))

/-- What stays with device `c` alone. -/
def private0 (c : Dev nD) : sProp 𝕄 :=
  iprop(atPos ER (barCell c) 0 ∅ 0 ∗ (openTok ER (locCell c) ∗ openTok ER (sndCell c) ∗ openTok ER (rcvCell c)) ∗ toks P c)

theorem ghost_of (κ : GSem nD τ sig → ℕ) (c : Dev nD) : iprop(shared P κ ∗ private0 P c) ⊢ iprop(∃ K, ghost P K c) := by
  unfold shared private0 ghost invs
  iintro ⟨⟨#HW, #HI, #HR⟩, Hat, ⟨HoL, HoS, HoR⟩, Ht⟩
  iexists κ
  isplitr
  · isplitr; · iexact HW
    isplitr; · iapply (inv_at P κ (bar_mem c)); iexact HI
    isplitr; · iapply (inv_at P κ (own_mem c 0)); iexact HI
    isplitr; · iapply (inv_at P κ (own_mem c 1)); iexact HI
    isplitr; · iapply (inv_at P κ (own_mem c 2)); iexact HI
    isplitr; · iapply (inv_at P κ (bar_mem (pr c))); iexact HI
    iapply (inv_at P κ (own_mem (pr c) 2)); iexact HI
  isplitl [Hat]; · iexact Hat
  isplitl [HoL]; · iexact HoL
  isplitl [HoS]; · iexact HoS
  isplitl [HoR]; · iexact HoR
  isplitr; · iapply (reached_at (F := F) (pr c)); iexact HR
  iexact Ht

/-! ## The launch credit -/

omit [FloatOps F] in
/-- Device `d` owes `c`'s cells only when it is `c`'s partner. -/
theorem owed_at (d c : Dev nD) : O₀ P d (barCell c) () = (if d = pr c then 1 else 0) ∧ O₀ P d (rcvCell c) () = if d = pr c then P.n (pr c) * N else 0 := by
  have hne (s : SemLoc sig) (h : d ≠ pr c) : ¬ (((pr d : Thread nD τ), s) = ((c : Thread nD τ), s) ∧ () = ()) := fun ⟨h1, _⟩ =>
    h (by rw [← pr_pr d]; exact congrArg pr (congrArg (fun g : GSem nD τ sig => g.1.1) h1))
  unfold O₀
  simp only [Pi.add_apply, Finsupp.add_apply]
  rw [tallyAt_ne_cell (fun h => rcv_ne_bar (congrArg Prod.snd h).symm), tallyAt_apply, Finsupp.zero_apply, Nat.zero_add,
    tallyAt_apply, tallyAt_ne_cell (fun h => rcv_ne_bar (congrArg Prod.snd h)), Finsupp.zero_apply, Nat.add_zero]
  by_cases h : d = pr c
  · subst h; rw [pr_pr]; exact ⟨(if_pos ⟨rfl, rfl⟩).trans (if_pos rfl).symm, (if_pos ⟨rfl, rfl⟩).trans (if_pos rfl).symm⟩
  · refine ⟨?_, ?_⟩
    · rw [if_neg h]; exact if_neg (fun ⟨h1, _⟩ => hne _ h ⟨h1.symm, rfl⟩)
    · rw [if_neg h]; exact if_neg (fun ⟨h1, _⟩ => hne _ h ⟨h1.symm, rfl⟩)

omit [FloatOps F] in
/-- A cell that only the partner owes, `k` of it, is credited `k` at launch. -/
theorem credit_at (g : GSem nD τ sig) (c : Dev nD) (k : ℕ) (h : ∀ d, O₀ P d g () = if d = pr c then k else 0) :
    tallyOn g (launchCredit (Pipeline.owing (O₀ P)) 0 g) = (tallyAt g () k : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (pr c) fun _ => k,
    if_pos (Finset.mem_univ _)]

theorem credits (c : Dev nD) :
    (Pipeline.launchCred (O₀ P) c : sProp 𝕄) ⊢ iprop(cred (tallyAt (barCell c) () 1) ∗ cred (tallyAt (rcvCell c) () (P.n (pr c) * N))) := by
  unfold Pipeline.launchCred
  rw [bigSep_univ_at _ (SemLoc.reg barS), credit_at P (barCell c) c 1 (fun d => (owed_at P d c).1)]
  refine sep_mono_right ?_
  rw [← credit_at P (rcvCell c) c _ (fun d => (owed_at P d c).2)]
  exact bigSep_elim (Finset.mem_erase.mpr ⟨rcv_ne_bar, Finset.mem_univ _⟩)

omit [FloatOps F] in
theorem unscoped_sems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-! ## The initial states -/

abbrev first (c : Dev nD) : sProp 𝕄 := iprop(StableHlo.held (c : Thread nD τ) (Pipeline.ucRefs τ sig) (V0 m c) ∗ rest P 0 c)
abbrev last (c : Dev nD) : sProp 𝕄 := iprop((∃ X, ⌜P.sure → X = P.go c⌝ ∗ StableHlo.held (c : Thread nD τ) (Pipeline.ucRefs τ sig) (left (V6 m) c X)) ∗ semVal (barCell c) 0)

/-- A device's launch holdings beside the protocol's. -/
def plain (c : Dev nD) : sProp 𝕄 :=
  iprop(StableHlo.held (c : Thread nD τ) (Pipeline.ucRefs τ sig) (V0 m c)
    ∗ (cred (tallyAt (barCell c) () 1) ∗ cred (tallyAt (rcvCell c) () (P.n (pr c) * N)))
    ∗ owes (c : Thread nD τ) (O₀ P c) ∅ ∗ ∃ r, prngReg c r)

theorem first_of (κ : GSem nD τ sig → ℕ) (c : Dev nD) : iprop(shared P κ ∗ (private0 P c ∗ plain P m c)) ⊢ first P m c := by
  unfold plain first rest kept; rw [if_pos rfl]
  iintro ⟨#HR, Hl, Hh, ⟨H1, HN⟩, HO, Hp⟩
  isplitl [Hh]; · iexact Hh
  isplitl [Hl H1 HN]
  · isplitl [Hl]
    · iapply (ghost_of P κ c)
      isplitr; · iexact HR
      iexact Hl
    isplitl [H1] <;> iassumption
  isplitl [Hp]; · iexact Hp
  iexists ∅; iexact HO

theorem launch_split (c : Dev nD) : iprop(unscopedBufs c (fun b => m ((c.tc : Thread nD τ).loc b)) ∗ unscopedSems0 c
      ∗ owes (c.tc : Thread nD τ) (O₀ P c) ∅ ∗ Pipeline.launchCred (O₀ P) c ∗ prngReg c (ρ c) ∗ seed P c)
    ⊢ (iprop(plain P m c ∗ (semVal (barCell c) 0 ∗ seed P c)) : sProp 𝕄) := by
  rw [show (unscopedBufs c (fun b => m ((c.tc : Thread nD τ).loc b)) : sProp 𝕄) = StableHlo.held (c : Thread nD τ) (Pipeline.ucRefs τ sig) (V0 m c) from
      Pipeline.unscopedBufs_held c (V0 m c), unscoped_sems]
  unfold plain
  iintro ⟨Hh, Hus, HO, Hcr, Hp, HG⟩
  ihave Hc := (credits P c) $$ Hcr
  isplitl [Hh Hc HO Hp]
  · isplitl [Hh]; · iexact Hh
    isplitl [Hc]; · iexact Hc
    isplitl [HO]; · iexact HO
    iexists (ρ c); iexact Hp
  isplitl [Hus] <;> iassumption

omit [FloatOps F] in
theorem open_rights : bigSep ownCells (fun g => (openTok ER g : sProp 𝕄))
    = bigSep Finset.univ (fun c : Dev nD => iprop(openTok ER (locCell c) ∗ openTok ER (sndCell c) ∗ openTok ER (rcvCell c))) := by
  rw [bigSep_map, bigSep_univ_prod]
  exact bigSep_congr fun c _ => bigSep_three (fun k : Fin 3 => (openTok ER ((c : Thread nD τ), osem k) : sProp 𝕄))

omit [FloatOps F] in
theorem at_bars (Φ : GSem nD τ sig → sProp 𝕄) : bigSep barCells Φ = bigSep Finset.univ (fun c : Dev nD => Φ (barCell c)) :=
  bigSep_map (s := Finset.univ) barAt (Φ := Φ)

theorem start_all : iprop((bigSep Finset.univ fun c : Dev nD => iprop(unscopedBufs c (fun b => m ((c.tc : Thread nD τ).loc b)) ∗ unscopedSems0 c
      ∗ owes (c.tc : Thread nD τ) (O₀ P c) ∅ ∗ Pipeline.launchCred (O₀ P) c ∗ prngReg c (ρ c) ∗ seed P c)) ∗ levAts L lv)
    ⊢ (|={Set.univ}=> bigSep Finset.univ (first P m) : sProp 𝕄) := by
  have hsplit : (bigSep Finset.univ fun c : Dev nD => iprop(unscopedBufs c (fun b => m ((c.tc : Thread nD τ).loc b)) ∗ unscopedSems0 c
        ∗ owes (c.tc : Thread nD τ) (O₀ P c) ∅ ∗ Pipeline.launchCred (O₀ P) c ∗ prngReg c (ρ c) ∗ seed P c))
      ⊢ (iprop(bigSep Finset.univ (plain P m) ∗ bigSep barCells (fun g => semVal g 0) ∗ made P) : sProp 𝕄) := by
    have e : (bigSep Finset.univ fun c : Dev nD => iprop(plain P m c ∗ (semVal (barCell c) 0 ∗ seed P c)) : sProp 𝕄)
        = iprop(bigSep Finset.univ (plain P m) ∗ bigSep barCells (fun g => semVal g 0) ∗ made P) := by
      rw [bigSep_sep', bigSep_sep', at_bars, ← parked_all (made P)]; rfl
    rw [← e]
    exact bigSep_mono fun c _ => launch_split P m ρ c
  have hdeal : iprop(bigSep Finset.univ (plain P m) ∗ bigSep barCells (fun g => atPos ER g 0 ∅ 0) ∗ bigSep ownCells (fun g => openTok ER g)
        ∗ bigSep (allDuties P) (fun x => dutyTok ER x.1 x.2.1 x.2.2))
      ⊢ (bigSep Finset.univ fun c => iprop(private0 P c ∗ plain P m c) : sProp 𝕄) := by
    unfold private0
    rw [at_bars, open_rights, allDuties_eq, toks_across]
    simp only [bigSep_sep']
    iintro ⟨HB, H⟩
    isplitl [H] <;> iassumption
  iintro ⟨H, -⟩
  ihave H' := hsplit $$ H
  unfold made
  icases H' with ⟨HB, Hv, Hu, Hw⟩
  imod (wmInv_alloc (emb := (EW : UEmb (WmRA nD τ sig (Elt F)) (UU F))) ⟨m, fun _ => 0, ρ⟩) $$ Hw with ⟨%ιw, -, #Hw⟩
  imod (Rounds.fund_launch ER (rd P) cells_apart (fun g _ h => h) (allDuties P)) $$ [Hv Hu] with ⟨%κ, -, #Hinv, #Hr, Hat, Hopen, Htok⟩
  · isplitl [Hv] <;> iassumption
  imodintro
  iapply (bigSep_with_persistent (R := shared P κ) (Φ := fun c => iprop(private0 P c ∗ plain P m c)) fun c _ => first_of P m κ c)
  isplitr
  · unfold shared
    isplitr; · unfold wmAny; iexists ιw; iexact Hw
    isplitr; · iexact Hinv
    iexact Hr
  iapply hdeal
  isplitl [HB]; · iexact HB
  isplitl [Hat]; · iexact Hat
  isplitl [Hopen] <;> iassumption

/-! ## The run -/

theorem only_bar : ∀ sm : SemLoc sig, sm.isScoped .tc = false → sm = .reg barS := by decide

theorem left_arg0 (c : Dev nD) (X) : left (V6 m) c X main_arg0 = m ((c : Thread nD τ).loc main_arg0) := V7_main_arg0 m (fun _ _ _ => left (V6 m) c X _) c
theorem left_arg1 (c : Dev nD) (X) : left (V6 m) c X main_arg1 = m ((c : Thread nD τ).loc main_arg1) := V7_main_arg1 m (fun _ _ _ => left (V6 m) c X _) c
theorem left_out (c : Dev nD) (X) : left (V6 m) c X main_v28 = X := Function.update_self (Proc.devRef .tc main_v28) X (V6 m c)

variable [∀ e, Nonempty (Elt F e)]

/-- @main's items on device `c`: the host's stretches and the region. -/
abbrev items (hm : Meets (V6 m) P) (c : Dev nD) : List (Pipeline.RDat.Seg (pcfgs (F := F)) adm (rdats (V6 m) P) () defs₀ 𝒱₀ L lv) :=
  [.host (seg0 m 𝒱₀ L lv (rest P) c), .host (seg1 m 𝒱₀ L lv (rest P)), .host (seg2 m 𝒱₀ L lv (rest P)), .host (seg3 m 𝒱₀ L lv (rest P)),
    .host (seg4 m 𝒱₀ L lv (rest P)), .host (seg5 m 𝒱₀ L lv (rest P)), .region (reg0 (V6 m) P hm)]

set_option backward.isDefEq.respectTransparency.types false in
/-- Where the plan is the one the host's values set, every device ends with its arguments as launched and every counter at zero, and with the plan's
    output if the plan is sure. -/
theorem run_main (hm : Meets (V6 m) P) : θ_run defs (onTc (τ := τ) (main (F := F))) ⟨m, fun _ => 0, ρ⟩ (fun r => (∀ c : Dev nD,
      (P.sure → r.2.mem ((c.tc : Thread nD τ).loc main_v28) = P.go c)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine Pipeline.RDat.θ_run_regions_kit_dev_sems (pcfgs (F := F)) adm (rdats (V6 m) P) () cellOf_inj EP defs₀ 𝒱₀ L lv m ρ main
    (items P m hm)
    (fun c Q => by
      rewrite [main_chain c, Pipeline.RDat.Seg.run_eq_chain,
        show (items P m hm c).map Pipeline.RDat.Seg.prog = [
          StableHlo.seq (hostOps0 c), StableHlo.seq hostOps0_1, StableHlo.seq hostOps0_2, StableHlo.seq hostOps0_3,
          StableHlo.seq hostOps0_4, StableHlo.seq hostOps0_5, Prog.lift (.customCall (Pipeline.entry 0) ()) ] from rfl]
      exact .rfl)
    (fun c => by simp only [items, Pipeline.RDat.Seg.pipes_host, Pipeline.RDat.Seg.pipes_region, Pipeline.RDat.Seg.pipes_nil]; decide)
    (O₀ P) L_of_ne (seed P) (u₀ P) ?_ (T₀ := first P m) (Tₙ := last P m)
    (hch := fun c => ⟨.rfl, .rfl, .rfl, .rfl, .rfl, .rfl, reg0_pre (V6 m) P hm c, (reg0_post (V6 m) P hm c).trans ?_⟩)
    (hinit := start_all P m ρ)
    (QY := fun c s => ((P.sure → s.mem ((c.tc : Thread nD τ).loc main_v28) = P.go c)
      ∧ s.mem ((c.tc : Thread nD τ).loc main_arg0) = m ((c.tc : Thread nD τ).loc main_arg0)
      ∧ s.mem ((c.tc : Thread nD τ).loc main_arg1) = m ((c.tc : Thread nD τ).loc main_arg1)) ∧ s.sem (barCell c) = 0)
    (hfin := fun c s' => ?_)
    (hQ := fun s h hs => ⟨fun c => (h c).1, sem_eq_zero hs fun c sm hsm => by obtain rfl := only_bar sm hsm; exact (h c).2⟩)
  · unfold seed
    iintro Hu
    ihave H := (u₀_split P) $$ Hu
    icases H with ⟨HP, HX⟩
    imodintro
    isplitl [HP]; · iexact HP
    rw [parked_all]; iexact HX
  · unfold rest after0; rw [if_neg (by decide)]
    iintro ⟨Hh, Hb, HO⟩
    isplitr [HO]
    · isplitl [Hh] <;> iassumption
    · iexact HO
  · unfold last StableHlo.held
    iintro ⟨⟨⟨%X, %hX, Hh⟩, Hb⟩, HSI⟩
    icombine HSI Hb gives %hb
    ihave Hr := (pointsTo_read_all (Pipeline.ucRefs τ sig) (fun b => ((c : Thread nD τ).1, b)) (left (V6 m) c X) s') $$ [Hh HSI]
    · isplitl [Hh] <;> iassumption
    icases Hr with ⟨%h, HSI⟩
    imodintro
    isplitr
    · ipureintro
      have hr (r : Ref sig .tc) (hr : Proc.devRef .tc r ∈ Pipeline.ucRefs τ sig) := h (Proc.devRef .tc r) hr
      exact ⟨⟨fun hs => ((hr main_v28 (by decide)).trans (left_out m c X)).trans (hX hs), (hr main_arg0 (by decide)).trans (left_arg0 m c X),
        (hr main_arg1 (by decide)).trans (left_arg1 m c X)⟩, by simpa using hb⟩
    · iexact HSI

end Cert.KernelProof
-- ==== Proof.Host.lean ====
/-
  What the host program hands the kernel, read off its operations: the sorted packed words and the two counts; and the plan they make.
-/
module

public import proofs.«01_k».proof.Proof.Words
public import proofs.«01_k».proof.Proof.Launch
public import Idealize.ShloMosaic.Lib.StableHlo.Run
public import Idealize.ShloMosaic.Lib.Pipeline.Value
public import Idealize.ShloMosaic.Lib.Pipeline.ValueKit.Geometry

@[expose] public section

noncomputable section

namespace Cert.KernelProof

open Cert.KernelIdeal Cert.KernelIdeal.Gen
open Idealize.ShloMosaic
open Idealize.ShloMosaic.TcCoe
open Idealize.ShloMosaic.StableHlo
open Idealize.SL Idealize.SL.Sem

variable {F : FTy → Type}

/-! ## Each stretch, from any contents -/

section Stretch
variable [FloatOps F] (c : Dev nD) (V : Valuation τ sig (Elt F))

theorem s0_mask : after (hostOps0 c) V main_v12 = (fun j => ownBit c (V main_arg0 j) : IVec S1024 1) := by
  after_results <;> rfl
theorem s0_row : after (hostOps0 c) V main_v7 = (fun j => IntOp.subi (V main_arg0 j) (base c) : IVec S1024 32) := by
  after_results <;> rfl
theorem s0_count : after (hostOps0 c) V main_v14
    = (Host.reduce IntOp.addi (extui 32 (fun j => ownBit c (V main_arg0 j)) natLt_1_32) (constantI S_ 32 0#32) reducesTo_S1024_S_d0 h_S_ : IVec S_ 32) := by
  after_results <;> rfl
theorem s0_tok : after (hostOps0 c) V main_v15 = (fun j => BitVec.ofNat 32 (j 0).val : IVec S1024 32) := by
  after_results <;> rfl
theorem s0_shift : after (hostOps0 c) V main_v17 = (fun j => IntOp.shli .host (BitVec.ofNat 32 (j 0).val) 13#32 : IVec S1024 32) := by
  after_results <;> rfl
theorem s0_lo : after (hostOps0 c) V main_c_6 = constantI S_ 32 0#32 := by
  after_results <;> rfl
theorem s0_hi : after (hostOps0 c) V main_c_7 = constantI S_ 32 8191#32 := by
  after_results <;> rfl
theorem s1_clip : after hostOps0_1 V main_v18
    = (fun j => IntOp.minsi (V main_c_7 ValueIdx.ix0) (IntOp.maxsi (V main_c_6 ValueIdx.ix0) (V main_v7 j)) : IVec S1024 32) := by
  after_results <;> exact funext fun j =>
    congrArg₂ IntOp.minsi (Routing.bc0 bcast_S_S1024 _ j) (congrArg (IntOp.maxsi · _) (Routing.bc0 bcast_S_S1024 _ j))
theorem s2_own : after hostOps0_2 V main_v19 = (fun j => IntOp.ori (V main_v17 j) (V main_v18 j) : IVec S1024 32) := by
  after_results <;> rfl
theorem s2_other : after hostOps0_2 V main_v21 = (fun j => IntOp.addi 1073741824#32 (V main_v15 j) : IVec S1024 32) := by
  after_results <;> rfl
theorem s3_pick : after hostOps0_3 V main_v22 = (select (V main_v12) (V main_v19) (V main_v21) : IVec S1024 32) := by
  after_results <;> rfl
theorem s4_sort : after hostOps0_4 V main_v23 = (Host.sort S1024 0 comparator_i32_d0 (V main_v22) : IVec S1024 32) := by
  after_results <;> rfl
theorem s5_counts : after hostOps0_5 V main_v27
    = (concatenate S2 0 [⟨S1, broadcastInDim S1 ![] bcast_S_S1 (V main_v14)⟩,
        ⟨S1, broadcastInDim S1 ![] bcast_S_S1 (subi (constantI S_ 32 1024#32) (V main_v14))⟩] concatenates_S1_S1_S2_d0 : IVec S2 32) := by
  after_results <;> rfl

end Stretch

/-! ## What the kernel is handed -/

section Handed
variable [FloatOps F] (m : (ℓ : Loc nD τ sig) → Buf (Elt F) ℓ)

/-- The row numbers device `c` was given. -/
abbrev idsOf (c : Dev nD) : IVec S1024 32 := m ((c.tc : Thread nD τ).loc main_arg0)

theorem pk_value (c : Dev nD) : V6 m c main_v23 = (Host.sort S1024 0 comparator_i32_d0 (packs (idsOf m) c) : IVec S1024 32) := by
  have e18 := s1_clip (V1 m c)
  rw [show V1 m c main_c_6 = _ from s0_lo c (V0 m c), show V1 m c main_c_7 = _ from s0_hi c (V0 m c),
    show V1 m c main_v7 = _ from s0_row c (V0 m c)] at e18
  have e19 := s2_own (V2 m c)
  rw [show V2 m c main_v18 = _ from e18, V2_of m c main_v17 (by decide), show V1 m c main_v17 = _ from s0_shift c (V0 m c)] at e19
  have e21 := s2_other (V2 m c)
  rw [V2_of m c main_v15 (by decide), show V1 m c main_v15 = _ from s0_tok c (V0 m c)] at e21
  have e22 := s3_pick (V3 m c)
  rw [show V3 m c main_v19 = _ from e19, show V3 m c main_v21 = _ from e21, V3_of m c main_v12 (by decide), V2_of m c main_v12 (by decide),
    show V1 m c main_v12 = _ from s0_mask c (V0 m c)] at e22
  rw [V6_of m c main_v23 (by decide), show V5 m c main_v23 = _ from s4_sort (V4 m c), show V4 m c main_v22 = _ from e22]
  rfl

theorem count_value (hR : InRange (idsOf m)) (c : Dev nD) : (V5 m c main_v14 : IVec S_ 32) ValueIdx.ix0 = BitVec.ofNat 32 (count (idsOf m) c) := by
  rw [V5_of m c main_v14 (by decide), V4_of m c main_v14 (by decide), V3_of m c main_v14 (by decide), V2_of m c main_v14 (by decide),
    show V1 m c main_v14 = _ from s0_count c (V0 m c)]
  exact mask_sum hR c _ _

theorem cn_own_value (hR : InRange (idsOf m)) (c : Dev nD) :
    (V6 m c main_v27 : IVec S2 32) (ix 0 (by decide)) = BitVec.ofNat 32 (count (idsOf m) c) := by
  rw [show V6 m c main_v27 = _ from s5_counts (V5 m c)]
  exact (concatenate_pair_apply_left (t := S2) (s₁ := S1) (s₂ := S1) 0 _ _ _ _ rfl (ix 0 (by decide)) (fun _ => rfl)).trans
    ((Routing.bc0 bcast_S_S1 _ _).trans (count_value m hR c))

theorem cn_peer_value (hR : InRange (idsOf m)) (hB : Balanced (idsOf m)) (c : Dev nD) :
    (V6 m c main_v27 : IVec S2 32) (ix 1 (by decide)) = BitVec.ofNat 32 (count (idsOf m) (pr c)) := by
  rw [show V6 m c main_v27 = _ from s5_counts (V5 m c)]
  refine (concatenate_pair_apply_right (t := S2) (s₁ := S1) (s₂ := S1) 0 _ _ _ _ rfl rfl (ix 0 (by decide))
    (fun b hb => absurd (Subsingleton.elim (α := Fin 1) _ _) hb) rfl).trans ((Routing.bc0 bcast_S_S1 _ _).trans ((congrArg (1024#32 - ·) (count_value m hR c)).trans ?_))
  have hc := count_le (ids := idsOf m) c
  rw [hB]
  apply BitVec.eq_of_toNat_eq
  rw [BitVec.toNat_sub, BitVec.toNat_ofNat, BitVec.toNat_ofNat, BitVec.toNat_ofNat]
  omega

end Handed

/-! ## The plan -/

variable (ids : Dev nD → IVec S1024 32) (e : Dev nD → (main_arg1 : Ref sig .tc).ty.Contents (Elt F))

/-- The row of token `t` within a half of the table. -/
def rowIn (c : Dev nD) (t : Tok) : Fin 8192 := ⟨(ids c (ix t.val t.isLt)).toNat % 8192, Nat.mod_lt _ (by decide)⟩

/-- Device `c`'s output row `t`: that token's row, from the half of the table it lies in. -/
def gatheredRow (c : Dev nD) (t : Tok) (k : Fin 1024) : Elt F .f32 :=
  let o : Dev nD := if Owns ids c t then c else pr c
  e o (ValueIdx.ix2 (rowIn ids o t) k)

/-- Device `c`'s output, all its rows. -/
def gathered (c : Dev nD) : (outR : Ref sig .tc).ty.Contents (Elt F) := fun (j : S1024x1024.Idx) => gatheredRow ids e c (j 0) (j 1)

theorem gatheredRow_owner (hR : InRange ids) (hA : Agree ids) {c c' : Dev nD} {t : Tok} (ho : Owns ids c t) (h : c' = c ∨ c' = pr c) (k : Fin 1024) :
    gatheredRow ids e c' t k = e c (ValueIdx.ix2 (rowIn ids c t) k) := by
  have ho' : (if Owns ids c' t then c' else pr c') = c := by
    rcases h with rfl | rfl
    · exact if_pos ho
    · rw [if_neg fun h => (owns_pr hR hA c t).mp h ho, pr_pr]
  unfold gatheredRow
  rw [ho']

/-- An element of output row `t`, and of table row `r`, by its coordinates. -/
theorem oRow_emb (t : Tok) (x : S1x1024.Idx) : (oRow t).view.emb x = (ValueIdx.ix2 t (x 1) : S1024x1024.Idx) := by
  funext a
  apply Fin.ext
  refine (ValueKit.view_emb_slice_whole_unit_val outR ![t.val, 0] S1x1024.size (oRow_inb t) x a).trans ?_
  have h0 : (x 0).val < 1 := (x 0).isLt
  fin_cases a
  · show t.val + (x 0).val = t.val; omega
  · exact Nat.zero_add _
theorem eRow_emb (r : Fin 8192) (x : S1x1024.Idx) : (eRow r).view.emb x = (ValueIdx.ix2 r (x 1) : S8192x1024.Idx) := by
  funext a
  apply Fin.ext
  refine (ValueKit.view_emb_slice_whole_unit_val main_arg1 ![r.val, 0] S1x1024.size (eRow_inb r) x a).trans ?_
  have h0 : (x 0).val < 1 := (x 0).isLt
  fin_cases a
  · show r.val + (x 0).val = r.val; omega
  · exact Nat.zero_add _

/-- The token of device `c`'s trip `i`. -/
def tripTok (c : Dev nD) (i : ℕ) : Tok := if h : i < 1024 then order ids c ⟨i, h⟩ else 0

variable {ids}

theorem owns_tripTok (hR : InRange ids) {c : Dev nD} {i : ℕ} (h : i < count ids c) : Owns ids c (tripTok ids c i) := by
  have hi := Nat.lt_of_lt_of_le h (count_le (ids := ids) c)
  rw [tripTok, dif_pos hi, owns_order hR]
  exact h

theorem tripTok_inj {c : Dev nD} {i j : ℕ} (hi : i < count ids c) (hj : j < count ids c) (h : tripTok ids c i = tripTok ids c j) : i = j := by
  have hi' := Nat.lt_of_lt_of_le hi (count_le (ids := ids) c)
  have hj' := Nat.lt_of_lt_of_le hj (count_le (ids := ids) c)
  rw [tripTok, tripTok, dif_pos hi', dif_pos hj'] at h
  exact congrArg Fin.val ((order_bij (ids := ids) c).1 h)

theorem tripTok_iff (hR : InRange ids) (c : Dev nD) (t : Tok) : (∃ i < count ids c, tripTok ids c i = t) ↔ Owns ids c t := by
  constructor
  · rintro ⟨i, hi, rfl⟩; exact owns_tripTok hR hi
  · intro h
    obtain ⟨i, rfl⟩ := (order_bij (ids := ids) c).2 t
    exact ⟨i.val, (owns_order hR c i).mp h, by rw [tripTok, dif_pos i.isLt]⟩

/-- The word the kernel reads at trip `i`. -/
theorem word_at (hR : InRange ids) {c : Dev nD} {i : ℕ} (hi : i < 1024) (h : i < count ids c) :
    (Host.sort S1024 0 comparator_i32_d0 (packs ids c) (ix i hi)).toNat = (tripTok ids c i).val * 8192 + (rowIn ids c (tripTok ids c i)).val := by
  have ho := owns_tripTok hR h
  rw [Host.sort_rank1]
  have e : tripTok ids c i = order ids c ⟨i, hi⟩ := dif_pos hi
  rw [e] at ho ⊢
  exact packs_own hR ho

theorem k0_off2_of {v : BitVec 32} {t r : ℕ} (hv : v.toNat = t * 8192 + r) (ht : t < 1024) (hr : r < 8192) : k0_off2 v = ![t, 0] := by
  have : (Scalar.shrsi v 13#32).toNat = t := by
    show (IntOp.shrsi .scalar v 13#32).toNat = t
    rw [IntOp.shrsi, if_pos (by decide)]
    show (v.sshiftRight 13).toNat = t
    rw [BitVec.sshiftRight_eq_of_msb_false (BitVec.msb_eq_false_iff_two_mul_lt.mpr (by omega)), BitVec.toNat_ushiftRight, Nat.shiftRight_eq_div_pow]
    omega
  exact congrArg (fun a => ![a, 0]) this

theorem k0_off3_of {v : BitVec 32} {t r : ℕ} (hv : v.toNat = t * 8192 + r) (hr : r < 8192) : k0_off3 v = ![r, 0] := by
  have : (Scalar.andi v 8191#32).toNat = r := by
    show (v &&& 8191#32).toNat = r
    rw [BitVec.toNat_and, show (8191#32).toNat = 2 ^ 13 - 1 from rfl, Nat.and_two_pow_sub_one_eq_mod]
    omega
  exact congrArg (fun a => ![a, 0]) this

open Classical in
/-- What device `c`'s output is to hold: the rows gathered from its pair's halves where the pair agrees, anything where it does not. -/
def target (ids : Dev nD → IVec S1024 32) (c : Dev nD) : S1024x1024.Idx → Option (Elt F .f32) :=
  if Agree ids then fun j => some (gathered ids e c j) else fun _ => none

theorem target_agree (hA : Agree ids) (c : Dev nD) : target e ids c = fun j => some (gathered ids e c j) := if_pos hA

/-- A row of the table goes only where its device's token has it, if the pair agrees; where it does not, anything may go anywhere. -/
theorem row_admitted (hR : InRange ids) {c c' : Dev nD} {t : Tok} (ho : Owns ids c t) (h : c' = c ∨ c' = pr c) :
    (oRow t).view.Admitted (Elt F) (target e ids c') ((eRow (rowIn ids c t)).view.read (Elt F) (e c)) Finset.univ := by
  by_cases hA : Agree ids
  · rw [target_agree e hA]
    refine View.admitted_some_iff.mpr fun x _ => ?_
    rw [View.read_apply, View.read_apply, oRow_emb, eRow_emb]
    exact (gatheredRow_owner ids e hR hA ho h (x 1)).symm
  · rw [show target e ids c' = fun _ => none from if_neg hA]
    exact fun x _ u hu => absurd hu (by simp [View.read])

/-- The plan the host program's words describe, sure of the output where each pair agrees. -/
def plan (hR : InRange ids) (cn : Dev nD → S2.Idx → BitVec 32) (h0 : ∀ c, cn c (ix 0 (by decide)) = BitVec.ofNat 32 (count ids c))
    (h1 : ∀ c, cn c (ix 1 (by decide)) = BitVec.ofNat 32 (count ids (pr c))) : Plan F where
  sure := Agree ids
  n := count ids
  tk := tripTok ids
  rw := rowIn ids
  e := e
  go := gathered ids e
  tgt := target e ids
  pk c := Host.sort S1024 0 comparator_i32_d0 (packs ids c)
  cn := cn
  n_le := count_le
  inj _ _ _ := tripTok_inj
  tgt_go hA := target_agree e hA
  cover hA c t := by rw [tripTok_iff hR, tripTok_iff hR, owns_pr hR hA]; exact Classical.em _
  row c c' i hc hi := row_admitted e hR (owns_tripTok hR hi) hc
  cn_own := h0
  cn_peer := h1
  pk_out c i hi h := k0_off2_of (word_at hR hi h) (tripTok ids c i).isLt (rowIn ids c _).isLt
  pk_in c i hi h := k0_off3_of (word_at hR hi h) (rowIn ids c _).isLt

/-- The host program's words meet the plan they describe. -/
theorem plan_meets [FloatOps F] (m : (ℓ : Loc nD τ sig) → Buf (Elt F) ℓ) (hR : InRange (idsOf m)) (hB : Balanced (idsOf m)) :
    Meets (V6 m) (plan (fun c => m ((c.tc : Thread nD τ).loc main_arg1)) hR (fun c => V6 m c main_v27) (cn_own_value m hR) (cn_peer_value m hR hB)) where
  e c := by
    rw [V6_of m c main_arg1 (by decide), V5_of m c main_arg1 (by decide), V4_of m c main_arg1 (by decide), V3_of m c main_arg1 (by decide),
      V2_of m c main_arg1 (by decide), V1_of m c main_arg1 (by decide)]
    rfl
  pk c := pk_value m c
  cn _ := rfl

/-- From any memory where the devices' row numbers are rows of the table and each pair's two counts add up to all the tokens, every run ends with
    each device's arguments unchanged and every counter at zero; and where the devices of each pair agree on the half each token lies in, with
    each device's result at the rows gathered from its pair's two halves of the table. -/
theorem run_gather [FloatOps F] [∀ e, Nonempty (Elt F e)] (m : (ℓ : Loc nD τ sig) → Buf (Elt F) ℓ) (ρ : Dev nD → PrngReg) (hR : InRange (idsOf m))
    (hB : Balanced (idsOf m)) :
    θ_run defs (onTc (τ := τ) (main (F := F))) ⟨m, fun _ => 0, ρ⟩ (fun r => (∀ c : Dev nD,
      (Agree (idsOf m) → r.2.mem ((c.tc : Thread nD τ).loc main_v28) = gathered (idsOf m) (fun c => m ((c.tc : Thread nD τ).loc main_arg1)) c)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  run_main _ m ρ (plan_meets m hR hB)

end Cert.KernelProof
end
-- ==== Proof.lean ====
/-
  The claims of the embedding lookup over a table cut in two. `Proof/Launch.lean` runs the kernel on every device from any plan of which
  rows go where; `Proof/Host.lean` reads the plan off the host program's words. Here the precondition is decoded, the gathered rows are
  compared with the reference's, and the five claims are put together.
-/
module

public import proofs.«01_k».proof.Defs
public import proofs.«01_k».proof.Proof.Host
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem
open Cert.KernelIdeal (S1024 nD τ sig)
open Cert.KernelProof

/-! ## The precondition -/

instance preKernel : Cert.Pre_half_counts_Kernel.Facts := ⟨by decide, by decide, by decide, by decide⟩
instance preReference : Cert.Pre_half_counts_ReferenceIdeal.Facts := ⟨by decide, by decide, by decide, by decide⟩

/-- A row number whose shift by 14 bits is zero is a row of the table. -/
theorem shift_zero (v : BitVec 32) (h : IntOp.shrsi .host v 14#32 = 0#32) : v.toNat < 16384 := by
  rw [IntOp.shrsi, if_pos (by decide)] at h
  have h' := congrArg BitVec.toInt (show v.sshiftRight 14 = _ from h)
  rw [BitVec.toInt_sshiftRight, Int.shiftRight_eq_div_pow, BitVec.toInt_eq_toNat_cond, BitVec.toInt_eq_toNat_cond, BitVec.toNat_ofNat] at h'
  have := v.isLt
  split_ifs at h' <;> omega

theorem ofBool_eq (b : Bool) : BitVec.ofBool b = 1#1 ↔ b = true := by revert b; decide

/-- The tokens whose row, of `x`, lies in the first half of the table. -/
def firsts (x : IVec S1024 32) : Finset Tok := Finset.univ.filter fun t => (x (ix t.val t.isLt)).toNat < 8192

/-- Where the precondition holds of the row numbers `x`, each is a row of the table and 510 lie in its first half. -/
theorem pre_counts {F : FTy → Type} [FloatOps F] (x : IVec S1024 32) (y : FVec F Cert.KernelIdeal.S8192x1024 .f32)
    (h : Cert.Pre_half_counts_Kernel.fn x y = fun _ => 1#1) : (∀ t : Tok, (x (ix t.val t.isLt)).toNat < 16384) ∧ (firsts x).card = 510 := by
  let total : IVec Cert.KernelIdeal.S_ 32 := Host.reduce IntOp.addi
    (extui 32 (fun j => BitVec.ofBool ((x j).slt 8192#32)) Cert.Pre_half_counts_Kernel.Facts.natLt_1_32) (constantI Cert.KernelIdeal.S_ 32 0#32)
    Cert.Pre_half_counts_Kernel.Facts.reducesTo_S1024_S_d0 Cert.Pre_half_counts_Kernel.Facts.h_S_
  have h1 (t : Tok) : BitVec.ofBool (IntOp.shrsi .host (x (ix t.val t.isLt)) 14#32 == 0#32) &&& BitVec.ofBool (total ValueIdx.ix0 == 510#32) = 1#1 :=
    (congrArg (IntOp.andi _) (Routing.bc0 Cert.Pre_half_counts_Kernel.Facts.bcast_S_S1024
      (cmpi .eq total (constantI Cert.KernelIdeal.S_ 32 510#32)) (ix t.val t.isLt))).symm.trans (congrFun h (ix t.val t.isLt))
  have h2 (t : Tok) := (ofBool_and _ _).mp (h1 t)
  have hr (t : Tok) : (x (ix t.val t.isLt)).toNat < 16384 := shift_zero _ (eq_of_beq (h2 t).1)
  refine ⟨hr, ?_⟩
  have hs : total ValueIdx.ix0 = 510#32 := eq_of_beq (h2 0).2
  dsimp only [total] at hs
  rw [bits_sum _ (fun t => (x (ix t.val t.isLt)).toNat < 8192) (fun t => by
    rw [ofBool_eq, slt_small _ _ (lt_trans (hr t) (by decide)) (by decide), decide_eq_true_iff]; rfl)] at hs
  have hn := congrArg BitVec.toNat hs
  have hc : (firsts x).card ≤ 1024 := (Finset.card_le_univ _).trans_eq (Fintype.card_fin 1024)
  rw [BitVec.toNat_ofNat, BitVec.toNat_ofNat] at hn
  change (firsts x).card % 2 ^ 32 = _ at hn
  omega

section Counts
variable {x : Dev nD → IVec S1024 32} (hR : InRange x) (h : ∀ c, (firsts (x c)).card = 510)
include hR h

/-- A device of the first half owns the tokens of the first half, one of the second half the others. -/
theorem count_half (c : Dev nD) : count x c = if half c = 0 then 510 else 514 := by
  have hc := half_lt c
  have hcard := Finset.card_filter_add_card_filter_not (s := (Finset.univ : Finset Tok)) (fun t => (x c (ix t.val t.isLt)).toNat < 8192)
  rw [Finset.card_univ, Fintype.card_fin, show (Finset.univ.filter fun t : Tok => (x c (ix t.val t.isLt)).toNat < 8192).card = 510 from h c] at hcard
  split_ifs with h0
  · refine (congrArg Finset.card (Finset.filter_congr fun t _ => ?_)).trans (h c)
    unfold Owns
    omega
  · refine (congrArg Finset.card (Finset.filter_congr (q := fun t => ¬ (x c (ix t.val t.isLt)).toNat < 8192) fun t _ => ?_)).trans (by omega)
    have := hR c t
    unfold Owns
    omega

/-- So the two counts of a pair add up to all the tokens. -/
theorem counts_balanced : Balanced x := fun c => by
  have hc := half_lt c
  rw [count_half hR h, count_half hR h, half_pr]
  split_ifs <;> omega

end Counts

/-- Where the precondition holds on every device, the row numbers are rows of the table and the pairs' counts are balanced. -/
theorem pre_runs {F : FTy → Type} [FloatOps F] (x : Dev nD → IVec S1024 32) (y : Dev nD → FVec F Cert.KernelIdeal.S8192x1024 .f32)
    (h : ∀ c, Cert.Pre_half_counts_Kernel.fn (x c) (y c) = fun _ => 1#1) : InRange x ∧ Balanced x :=
  have hR : InRange x := fun c => (pre_counts _ _ (h c)).1
  ⟨hR, counts_balanced hR fun c => (pre_counts _ _ (h c)).2⟩

/-! ## The frames -/

/-- The two programs have the same kernel body. -/
theorem defs₀_eq : (fun p l a => Cert.Kernel.defs₀ (F := Bits) p l a) = (fun p l a => Cert.KernelIdeal.defs₀ (F := Bits) p l a) := by
  funext p l a
  rcases p with _ | _ | _
  · obtain ⟨_ | i, hi⟩ := l
    · rfl
    · exact absurd hi (by omega)
  · rfl
  · rfl

/-- The two programs have the same kernel, its pipeline included. -/
theorem defs_eq : (fun p l a => Cert.KernelIdeal.defs (F := Bits) p l a) = (fun p l a => Cert.Kernel.defs (F := Bits) p l a) :=
  (congrArg (Pipeline.defs (Cert.KernelIdeal.pcfgs (F := Bits))) defs₀_eq).symm

set_option maxHeartbeats 2000000 in
/-- The two programs have the same host part. -/
theorem main_eq : Cert.KernelIdeal.main (F := Bits) = Cert.Kernel.main (F := Bits) := rfl

/-- From any memory where the precondition holds, the kernel's run ends with its arguments kept and every counter at zero. -/
theorem frame_kernel : Cert.quiescent_Kernel := fun m ρ hp => by
  have hx : InRange (idsOf (F := Bits) m) ∧ Balanced (idsOf (F := Bits) m) :=
    pre_runs (F := Bits) _ (fun c => m ((c.tc : Thread nD τ).loc Cert.KernelIdeal.main_arg1)) hp
  have h := run_gather (F := Bits) m ρ hx.1 hx.2
  have e : Cert.KernelIdeal.defs (F := Bits) = (fun p l a => Cert.KernelIdeal.defs (F := Bits) p l a) := rfl
  rw [e, defs_eq, main_eq] at h
  exact (θ_run Cert.Kernel.defs _ _).mono (fun _ h => ⟨fun c => (h.1 c).2, h.2⟩) h

/-- The same of the kernel over the extended reals. -/
theorem frame_ideal : Cert.quiescent_KernelIdeal := fun m ρ hp =>
  (θ_run Cert.KernelIdeal.defs _ _).mono (fun _ h => ⟨fun c => (h.1 c).2, h.2⟩)
    (run_gather (F := Ideal) m ρ (pre_runs _ _ hp).1 (pre_runs _ _ hp).2)

/-- From any memory, the reference's run ends with its arguments kept and every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The gathered rows are the reference's -/

/-- Device `c`'s half of the table, at a row of it: the whole table, `half c` halves further down. -/
theorem half_row {α : Type} (E : Cert.ReferenceIdeal.S16384x1024.Idx → α) (c : Dev nD) (r : Fin 8192) (k : Fin 1024) (b : Fin 16384)
    (hb : b.val = half c * 8192 + r.val) :
    (Layout.blockN ⟨2, ![8192, 1024]⟩ ⟨2, ![16384, 1024]⟩ (Layout.meshBlock [2, 2, 2] ![[2], []] c) E : (⟨2, ![8192, 1024]⟩ : Shape).Idx → α) (ValueIdx.ix2 r k) = E (ValueIdx.ix2 b k) := by
  rw [Layout.blockN_apply]
  refine congrArg E (funext fun a => Fin.ext ?_)
  rw [Layout.TilesN.idx_val]
  fin_cases a
  · have : ((Layout.meshBlock [2, 2, 2] ![[2], []] c : (b : Fin 2) → _) 0).val = half c := by clear hb; revert c; decide
    show ((Layout.meshBlock [2, 2, 2] ![[2], []] c : (b : Fin 2) → _) 0).val * 8192 + r.val = b.val
    rw [this, hb]
  · show 0 * 1024 + k.val = k.val
    omega

/-- The reference's row of a token whose row number is a row of the table. -/
theorem reference_row (E : FVec Ideal Cert.ReferenceIdeal.S16384x1024 .f32) (x : IVec S1024 32) (t : Tok) (k : Fin 1024) (hx : (x (ix t.val t.isLt)).toNat < 16384) :
    Host.gather Cert.ReferenceIdeal.gather_S16384x1024_S1024x1_S1024x1024_1_0_n_n_0_1_11024 E
        (broadcastInDim Cert.ReferenceIdeal.S1024x1 ![0] Cert.ReferenceIdeal.Gen.bcast_S1024_S1024x1_0
          (select (cmpi .slt x (broadcastInDim S1024 ![] Cert.ReferenceIdeal.Gen.bcast_S_S1024 (constantI Cert.ReferenceIdeal.S_ 32 0#32)))
            (addi x (broadcastInDim S1024 ![] Cert.ReferenceIdeal.Gen.bcast_S_S1024 (constantI Cert.ReferenceIdeal.S_ 32 16384#32))) x)) (ValueIdx.ix2 t k)
      = E (ValueIdx.ix2 ⟨(x (ix t.val t.isLt)).toNat, hx⟩ k) := by
  refine Routing.gather_row _ rfl rfl rfl rfl rfl E _ t k _ ?_ (by decide)
  rw [Routing.bcCol]
  have e : (ValueIdx.ix1 t : S1024.Idx) = ix t.val t.isLt := by funext a; fin_cases a; rfl
  rw [e]
  show (if BitVec.ofBool ((x (ix t.val t.isLt)).slt 0#32) = 1#1 then _ else x (ix t.val t.isLt)) = _
  rw [slt_small _ _ (by omega) (by decide), if_neg (by simp)]
  simp

/-- Devices given the same row numbers agree on the half each token lies in. -/
theorem same_agree {x : Dev nD → IVec S1024 32} (x₀ : IVec S1024 32) (hx : ∀ c, x c = x₀) : Agree x := fun c t => by
  rw [hx c, hx (pr c)]

/-- The two programs' results: at every device, the rows gathered from its pair's halves are the reference's rows. -/
theorem gathered_eq (x : Dev nD → IVec S1024 32) (x₀ : IVec S1024 32) (hx : ∀ c, x c = x₀) (hR : InRange x)
    (E : FVec Ideal Cert.ReferenceIdeal.S16384x1024 .f32) (e : Dev nD → FVec Ideal Cert.KernelIdeal.S8192x1024 .f32)
    (he : ∀ c, e c = Layout.blockN ⟨2, ![8192, 1024]⟩ ⟨2, ![16384, 1024]⟩ (Layout.meshBlock [2, 2, 2] ![[2], []] c) E) (c : Dev nD) (t : Tok) (k : Fin 1024) :
    gatheredRow (F := Ideal) x e c t k = E (ValueIdx.ix2 ⟨(x₀ (ix t.val t.isLt)).toNat, hx c ▸ hR c t⟩ k) := by
  have hA := same_agree x₀ hx
  obtain ⟨o, ho, hco⟩ : ∃ o, Owns x o t ∧ (c = o ∨ c = pr o) := by
    by_cases h : Owns x c t
    · exact ⟨c, h, .inl rfl⟩
    · exact ⟨pr c, (owns_pr hR hA c t).mpr h, .inr (pr_pr c).symm⟩
  refine (gatheredRow_owner (F := Ideal) x e hR hA ho hco k).trans ?_
  rw [he]
  refine half_row E o _ k _ ?_
  have h1 : (x o (ix t.val t.isLt)).toNat / 8192 = half o := ho
  rw [hx] at h1
  show (x₀ (ix t.val t.isLt)).toNat = half o * 8192 + (x o (ix t.val t.isLt)).toNat % 8192
  rw [hx]
  omega

/-- Over the extended reals, where the precondition holds, every device ends with the whole of the reference's result. -/
theorem algebraic : Cert.algebraic_KernelIdeal_ReferenceIdeal := fun m ρ m' ρ' hp hm => by
  have hR := (pre_runs _ _ hp).1
  refine ⟨_, (θ_run Cert.KernelIdeal.defs _ _).mono (fun _ h c => ⟨((h.1 c).1 (same_agree _ fun c => (hm c).1)).trans ?_, (h.1 c).2⟩)
      (run_gather (F := Ideal) m ρ hR (pre_runs _ _ hp).2),
    (θ_run Cert.ReferenceIdeal.defs _ _).mono (fun _ h => h 0) (Cert.ReferenceIdeal.Value.run (F := Ideal) m' ρ')⟩
  funext j
  obtain ⟨t, k, rfl⟩ : ∃ (t : Tok) (k : Fin 1024), j = ValueIdx.ix2 t k := ⟨j 0, j 1, by funext a; fin_cases a <;> rfl⟩
  refine (gathered_eq _ _ (fun c => (hm c).1) hR _ _ (fun c => (hm c).2) c t k).trans (reference_row _ _ t k _).symm

/-- The five claims. -/
theorem claim : Cert.Claim :=
  ⟨Cert.Kernel.Gen.facts, Cert.KernelIdeal.Gen.facts, Cert.ReferenceIdeal.Gen.facts, preKernel, preReference,
    frame_kernel, frame_ideal, frame_reference, fun m ρ _ => frame_reference m ρ trivial, trivial, algebraic⟩

end Cert.Proof

end
